-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v73) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S2x16384x1024 : Shape := ⟨3, ![2, 16384, 1024]⟩
abbrev S2x1024 : Shape := ⟨2, ![2, 1024]⟩
abbrev S1x1024x4096 : Shape := ⟨3, ![1, 1024, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1x1024 : Shape := ⟨2, ![1, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩
abbrev S8x128x256 : Shape := ⟨3, ![8, 128, 256]⟩
abbrev S8x256x256 : Shape := ⟨3, ![8, 256, 256]⟩
abbrev S128x8 : Shape := ⟨2, ![128, 8]⟩
abbrev S128x8x256 : Shape := ⟨3, ![128, 8, 256]⟩
abbrev S128x2048 : Shape := ⟨2, ![128, 2048]⟩
abbrev S256x2048 : Shape := ⟨2, ![256, 2048]⟩
abbrev S1x1024x1024 : Shape := ⟨3, ![1, 1024, 1024]⟩
abbrev S1024x1024 : Shape := ⟨2, ![1024, 1024]⟩
abbrev S1024x2048 : Shape := ⟨2, ![1024, 2048]⟩
abbrev S1x32x1024 : Shape := ⟨3, ![1, 32, 1024]⟩
abbrev S32x1024 : Shape := ⟨2, ![32, 1024]⟩
abbrev S32 : Shape := ⟨1, ![32]⟩
abbrev S32x1 : Shape := ⟨2, ![32, 1]⟩
abbrev S1024x1 : Shape := ⟨2, ![1024, 1]⟩
abbrev S1024x256 : Shape := ⟨2, ![1024, 256]⟩
abbrev S256x256 : Shape := ⟨2, ![256, 256]⟩
abbrev S1x256x256 : Shape := ⟨3, ![1, 256, 256]⟩
abbrev S1x256 : Shape := ⟨2, ![1, 256]⟩

abbrev nBuf : Space → Nat
  | .hbm => 32
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S1x1024x4096, .f32⟩
  | .hbm, ⟨3, _⟩ => ⟨S1x2048, .f32⟩
  | .hbm, ⟨4, _⟩ => ⟨S1x2048, .f32⟩
  | .hbm, ⟨5, _⟩ => ⟨S1x8x128x128, .f32⟩
  | .hbm, ⟨6, _⟩ => ⟨S1x8x128, .f32⟩
  | .hbm, ⟨7, _⟩ => ⟨S1x2048x1024, .f32⟩
  | .hbm, ⟨8, _⟩ => ⟨S1x1024, .f32⟩
  | .hbm, ⟨9, _⟩ => ⟨S1024, .f32⟩
  | .hbm, ⟨10, _⟩ => ⟨S1024x4096, .f32⟩
  | .hbm, ⟨11, _⟩ => ⟨S2048, .f32⟩
  | .hbm, ⟨12, _⟩ => ⟨S2048, .f32⟩
  | .hbm, ⟨13, _⟩ => ⟨S8x128x128, .f32⟩
  | .hbm, ⟨14, _⟩ => ⟨S8x128, .f32⟩
  | .hbm, ⟨15, _⟩ => ⟨S2048x1024, .f32⟩
  | .hbm, ⟨16, _⟩ => ⟨S_, .f32⟩
  | .hbm, ⟨17, _⟩ => ⟨S8x128x128, .f32⟩
  | .hbm, ⟨18, _⟩ => ⟨S8x128x256, .f32⟩
  | .hbm, ⟨19, _⟩ => ⟨S8x128x256, .f32⟩
  | .hbm, ⟨20, _⟩ => ⟨S8x256x256, .f32⟩
  | .hbm, ⟨21, _⟩ => ⟨S8x256x256, .bf16⟩
  | .hbm, ⟨22, _⟩ => ⟨S128x8, .f32⟩
  | .hbm, ⟨23, _⟩ => ⟨S128x8x256, .f32⟩
  | .hbm, ⟨24, _⟩ => ⟨S128x2048, .f32⟩
  | .hbm, ⟨25, _⟩ => ⟨S256x2048, .f32⟩
  | .hbm, ⟨26, _⟩ => ⟨S1x1024, .f32⟩
  | .hbm, ⟨27, _⟩ => ⟨S1024x4096, .bf16⟩
  | .hbm, ⟨28, _⟩ => ⟨S1x2048, .f32⟩
  | .hbm, ⟨29, _⟩ => ⟨S1x2048, .f32⟩
  | .hbm, ⟨30, _⟩ => ⟨S2048x1024, .bf16⟩
  | .hbm, ⟨31, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x4096, .bf16⟩
  | .local _ .vmem, ⟨4, _⟩ => ⟨S1x2048, .f32⟩
  | .local _ .vmem, ⟨5, _⟩ => ⟨S1x2048, .f32⟩
  | .local _ .vmem, ⟨6, _⟩ => ⟨S8x256x256, .bf16⟩
  | .local _ .vmem, ⟨7, _⟩ => ⟨S256x2048, .f32⟩
  | .local _ .vmem, ⟨8, _⟩ => ⟨S2048x1024, .bf16⟩
  | .local _ .vmem, ⟨9, _⟩ => ⟨S1x1024x1024, .f32⟩
  | .local _ .vmem, ⟨10, _⟩ => ⟨S1x1024x1024, .f32⟩
  | .local _ .vmem, ⟨11, _⟩ => ⟨S1024x1024, .bf16⟩
  | .local _ .vmem, ⟨12, _⟩ => ⟨S1024x2048, .f32⟩
  | .local _ .vmem, ⟨13, _⟩ => ⟨S1024x2048, .f32⟩
  | .local _ .vmem, ⟨14, _⟩ => ⟨S1024x2048, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S2x16384x1024 : Shape := ⟨3, ![2, 16384, 1024]⟩
abbrev S2x1024 : Shape := ⟨2, ![2, 1024]⟩
abbrev S1x1024x4096 : Shape := ⟨3, ![1, 1024, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S2x16384x4096 : Shape := ⟨3, ![2, 16384, 4096]⟩
abbrev S2x16384x2048 : Shape := ⟨3, ![2, 16384, 2048]⟩
abbrev S1x1x2048 : Shape := ⟨3, ![1, 1, 2048]⟩
abbrev S2x128x128x8x256 : Shape := ⟨5, ![2, 128, 128, 8, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x2x128x256x128 : Shape := ⟨5, ![8, 2, 128, 256, 128]⟩
abbrev S128x8 : Shape := ⟨2, ![128, 8]⟩
abbrev S1x1x128x8x1 : Shape := ⟨5, ![1, 1, 128, 8, 1]⟩

abbrev nBuf : Space → Nat
  | .hbm => 139
  | .vmem => 0
  | .smem => 0
  | _ => 0

abbrev hbmTy0_0 (i : Nat) : BufTy := match i % 128 with
  | 0 => ⟨S2x16384x1024, .f32⟩
  | 1 => ⟨S2x1024, .f32⟩
  | 2 => ⟨S1x1024x4096, .f32⟩
  | 3 => ⟨S1x2048, .f32⟩
  | 4 => ⟨S1x2048, .f32⟩
  | 5 => ⟨S1x8x128x128, .f32⟩
  | 6 => ⟨S1x8x128, .f32⟩
  | 7 => ⟨S1x2048x1024, .f32⟩
  | 8 => ⟨S1x1024, .f32⟩
  | 9 => ⟨S1024, .f32⟩
  | 10 => ⟨S2x16384x1024, .f32⟩
  | 11 => ⟨S_, .f32⟩
  | 12 => ⟨S2x16384, .f32⟩
  | 13 => ⟨S2x16384x1, .f32⟩
  | 14 => ⟨S_, .f32⟩
  | 15 => ⟨S2x16384x1, .f32⟩
  | 16 => ⟨S2x16384x1, .f32⟩
  | 17 => ⟨S_, .f32⟩
  | 18 => ⟨S2x16384x1, .f32⟩
  | 19 => ⟨S2x16384x1, .f32⟩
  | 20 => ⟨S2x16384x1, .f32⟩
  | 21 => ⟨S2x16384x1024, .f32⟩
  | 22 => ⟨S2x16384x1024, .f32⟩
  | 23 => ⟨S1x1x1024, .f32⟩
  | 24 => ⟨S2x16384x1024, .f32⟩
  | 25 => ⟨S2x16384x1024, .f32⟩
  | 26 => ⟨S1024x4096, .f32⟩
  | 27 => ⟨S2048, .f32⟩
  | 28 => ⟨S2048, .f32⟩
  | 29 => ⟨S8x128x128, .f32⟩
  | 30 => ⟨S8x128, .f32⟩
  | 31 => ⟨S2048x1024, .f32⟩
  | 32 => ⟨S2x16384x4096, .f32⟩
  | 33 => ⟨S2x16384x4096, .f32⟩
  | 34 => ⟨S2x16384x4096, .f32⟩
  | 35 => ⟨S_, .f32⟩
  | 36 => ⟨S2x16384x4096, .f32⟩
  | 37 => ⟨S2x16384x4096, .f32⟩
  | 38 => ⟨S2x16384x4096, .f32⟩
  | 39 => ⟨S_, .f32⟩
  | 40 => ⟨S2x16384x4096, .f32⟩
  | 41 => ⟨S2x16384x4096, .f32⟩
  | 42 => ⟨S2x16384x4096, .f32⟩
  | 43 => ⟨S_, .f32⟩
  | 44 => ⟨S2x16384x4096, .f32⟩
  | 45 => ⟨S2x16384x4096, .f32⟩
  | 46 => ⟨S_, .f32⟩
  | 47 => ⟨S2x16384x4096, .f32⟩
  | 48 => ⟨S2x16384x4096, .f32⟩
  | 49 => ⟨S2x16384x4096, .f32⟩
  | 50 => ⟨S2x16384x2048, .f32⟩
  | 51 => ⟨S2x16384x2048, .f32⟩
  | 52 => ⟨S_, .f32⟩
  | 53 => ⟨S2x16384, .f32⟩
  | 54 => ⟨S2x16384x1, .f32⟩
  | 55 => ⟨S_, .f32⟩
  | 56 => ⟨S2x16384x1, .f32⟩
  | 57 => ⟨S2x16384x1, .f32⟩
  | 58 => ⟨S2x16384x2048, .f32⟩
  | 59 => ⟨S2x16384x2048, .f32⟩
  | 60 => ⟨S2x16384x2048, .f32⟩
  | 61 => ⟨S_, .f32⟩
  | 62 => ⟨S2x16384, .f32⟩
  | 63 => ⟨S2x16384x1, .f32⟩
  | 64 => ⟨S_, .f32⟩
  | 65 => ⟨S2x16384x1, .f32⟩
  | 66 => ⟨S2x16384x1, .f32⟩
  | 67 => ⟨S2x16384x2048, .f32⟩
  | 68 => ⟨S2x16384x2048, .f32⟩
  | 69 => ⟨S_, .f32⟩
  | 70 => ⟨S2x16384x1, .f32⟩
  | 71 => ⟨S2x16384x1, .f32⟩
  | 72 => ⟨S2x16384x1, .f32⟩
  | 73 => ⟨S2x16384x2048, .f32⟩
  | 74 => ⟨S2x16384x2048, .f32⟩
  | 75 => ⟨S1x1x2048, .f32⟩
  | 76 => ⟨S2x16384x2048, .f32⟩
  | 77 => ⟨S2x16384x2048, .f32⟩
  | 78 => ⟨S1x1x2048, .f32⟩
  | 79 => ⟨S2x16384x2048, .f32⟩
  | 80 => ⟨S2x16384x2048, .f32⟩
  | 81 => ⟨S2x128x128x8x256, .f32⟩
  | 82 => ⟨S128, .i32⟩
  | 83 => ⟨S1x128, .i32⟩
  | 84 => ⟨S_, .i32⟩
  | 85 => ⟨S_, .i32⟩
  | 86 => ⟨S1x128, .i32⟩
  | 87 => ⟨S1x128, .i32⟩
  | 88 => ⟨S1x128, .i32⟩
  | 89 => ⟨S_, .i32⟩
  | 90 => ⟨S1x128, .i32⟩
  | 91 => ⟨S1x128, .i1⟩
  | 92 => ⟨S1x128, .i32⟩
  | 93 => ⟨S1x128, .i32⟩
  | 94 => ⟨S_, .i32⟩
  | 95 => ⟨S1x128, .i32⟩
  | 96 => ⟨S1x128, .i1⟩
  | 97 => ⟨S1x128, .i1⟩
  | 98 => ⟨S_, .i32⟩
  | 99 => ⟨S1x128, .i32⟩
  | 100 => ⟨S1x128, .i32⟩
  | 101 => ⟨S1x128, .i32⟩
  | 102 => ⟨S128x1, .i32⟩
  | 103 => ⟨S_, .i32⟩
  | 104 => ⟨S_, .i32⟩
  | 105 => ⟨S128x1, .i32⟩
  | 106 => ⟨S128x1, .i32⟩
  | 107 => ⟨S128x1, .i32⟩
  | 108 => ⟨S_, .i32⟩
  | 109 => ⟨S128x1, .i32⟩
  | 110 => ⟨S128x1, .i1⟩
  | 111 => ⟨S128x1, .i32⟩
  | 112 => ⟨S128x1, .i32⟩
  | 113 => ⟨S_, .i32⟩
  | 114 => ⟨S128x1, .i32⟩
  | 115 => ⟨S128x1, .i1⟩
  | 116 => ⟨S128x1, .i1⟩
  | 117 => ⟨S_, .i32⟩
  | 118 => ⟨S128x1, .i32⟩
  | 119 => ⟨S128x1, .i32⟩
  | 120 => ⟨S128x1, .i32⟩
  | 121 => ⟨S128x128, .i32⟩
  | 122 => ⟨S128x128, .i32⟩
  | 123 => ⟨S128x128, .i1⟩
  | 124 => ⟨S1x128x128, .i1⟩
  | 125 => ⟨S_, .f32⟩
  | 126 => ⟨S8x128x128, .f32⟩
  | 127 => ⟨S8x128x128, .i1⟩
  | _ => ⟨S2x16384x1024, .f32⟩

abbrev hbmTy0_1 (i : Nat) : BufTy := match i % 128 with
  | 0 => ⟨S8x128x128, .f32⟩
  | 1 => ⟨S8x2x128x256x128, .f32⟩
  | 2 => ⟨S2x128x128x8x256, .f32⟩
  | 3 => ⟨S128x8, .f32⟩
  | 4 => ⟨S1x1x128x8x1, .f32⟩
  | 5 => ⟨S2x128x128x8x256, .f32⟩
  | 6 => ⟨S2x128x128x8x256, .f32⟩
  | 7 => ⟨S2x16384x2048, .f32⟩
  | 8 => ⟨S2x16384x2048, .f32⟩
  | 9 => ⟨S2x16384x1024, .f32⟩
  | 10 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_v8 : Ref sig .tc := ⟨.hbm, 93, rfl⟩
abbrev main_call0_c : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_call0_c_0 : Ref sig .tc := ⟨.hbm, 98, rfl⟩
abbrev main_call0_v12 : Ref sig .tc := ⟨.hbm, 99, rfl⟩
abbrev main_call0_v13 : Ref sig .tc := ⟨.hbm, 100, rfl⟩
abbrev main_v64 : Ref sig .tc := ⟨.hbm, 101, rfl⟩
abbrev main_v65 : Ref sig .tc := ⟨.hbm, 102, rfl⟩
abbrev main_c_11 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_v8 : Ref sig .tc := ⟨.hbm, 112, rfl⟩
abbrev main_call1_c : Ref sig .tc := ⟨.hbm, 113, rfl⟩
abbrev main_call1_v9 : Ref sig .tc := ⟨.hbm, 114, rfl⟩
abbrev main_call1_v10 : Ref sig .tc := ⟨.hbm, 115, rfl⟩
abbrev main_call1_v11 : Ref sig .tc := ⟨.hbm, 116, rfl⟩
abbrev main_call1_c_0 : Ref sig .tc := ⟨.hbm, 117, rfl⟩
abbrev main_call1_v12 : Ref sig .tc := ⟨.hbm, 118, rfl⟩
abbrev main_call1_v13 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_cst_12 : Ref sig .tc := ⟨.hbm, 125, rfl⟩
abbrev main_v71 : Ref sig .tc := ⟨.hbm, 126, rfl⟩
abbrev main_call2_v0 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S2x1x1024 : Shape := ⟨3, ![2, 1, 1024]⟩
abbrev S2x1x5632 : Shape := ⟨3, ![2, 1, 5632]⟩
abbrev S1x1024 : Shape := ⟨2, ![1, 1024]⟩
abbrev S1x512x1024 : Shape := ⟨3, ![1, 512, 1024]⟩
abbrev S1x1x1024 : Shape := ⟨3, ![1, 1, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S512x1024 : Shape := ⟨2, ![512, 1024]⟩
abbrev S2x4x520x128 : Shape := ⟨4, ![2, 4, 520, 128]⟩
abbrev S44x8x128 : Shape := ⟨3, ![44, 8, 128]⟩
abbrev S512x2816 : Shape := ⟨2, ![512, 2816]⟩
abbrev S8x512x128 : Shape := ⟨3, ![8, 512, 128]⟩
abbrev S1x32x1024 : Shape := ⟨3, ![1, 32, 1024]⟩
abbrev S32x1024 : Shape := ⟨2, ![32, 1024]⟩
abbrev S32 : Shape := ⟨1, ![32]⟩
abbrev S32x1 : Shape := ⟨2, ![32, 1]⟩
abbrev S1x1024x256 : Shape := ⟨3, ![1, 1024, 256]⟩
abbrev S1024x256 : Shape := ⟨2, ![1024, 256]⟩
abbrev S512x256 : Shape := ⟨2, ![512, 256]⟩
abbrev S512x128 : Shape := ⟨2, ![512, 128]⟩
abbrev S1x8x128 : Shape := ⟨3, ![1, 8, 128]⟩
abbrev S8x128 : Shape := ⟨2, ![8, 128]⟩
abbrev S1x1x8x128 : Shape := ⟨4, ![1, 1, 8, 128]⟩
abbrev S1x1x512x128 : Shape := ⟨4, ![1, 1, 512, 128]⟩
abbrev S1x1x128 : Shape := ⟨3, ![1, 1, 128]⟩
abbrev S1x128 : Shape := ⟨2, ![1, 128]⟩
abbrev S1x1x64x128 : Shape := ⟨4, ![1, 1, 64, 128]⟩
abbrev S64x128 : Shape := ⟨2, ![64, 128]⟩
abbrev S2816x1024 : Shape := ⟨2, ![2816, 1024]⟩
abbrev S256x128 : Shape := ⟨2, ![256, 128]⟩
abbrev S1x256x128 : Shape := ⟨3, ![1, 256, 128]⟩
abbrev S1x32x128 : Shape := ⟨3, ![1, 32, 128]⟩
abbrev S32x128 : Shape := ⟨2, ![32, 128]⟩

abbrev nBuf : Space → Nat
  | .hbm => 13
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S2x1024x5632, .f32⟩
  | .hbm, ⟨3, _⟩ => ⟨S2x3x5632, .f32⟩
  | .hbm, ⟨4, _⟩ => ⟨S2x5632, .f32⟩
  | .hbm, ⟨5, _⟩ => ⟨S2x2816x1024, .f32⟩
  | .hbm, ⟨6, _⟩ => ⟨S1024, .f32⟩
  | .hbm, ⟨7, _⟩ => ⟨S2x1x1024, .f32⟩
  | .hbm, ⟨8, _⟩ => ⟨S2x1024x5632, .bf16⟩
  | .hbm, ⟨9, _⟩ => ⟨S2x1x5632, .f32⟩
  | .hbm, ⟨10, _⟩ => ⟨S2x2816x1024, .bf16⟩
  | .hbm, ⟨11, _⟩ => ⟨S1x1024, .f32⟩
  | .hbm, ⟨12, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x3x5632, .f32⟩
  | .local _ .vmem, ⟨5, _⟩ => ⟨S1x1x5632, .f32⟩
  | .local _ .vmem, ⟨6, _⟩ => ⟨S1x2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x1024, .bf16⟩
  | .local _ .vmem, ⟨11, _⟩ => ⟨S2x4x520x128, .f32⟩
  | .local _ .vmem, ⟨12, _⟩ => ⟨S44x8x128, .f32⟩
  | .local _ .vmem, ⟨13, _⟩ => ⟨S512x2816, .bf16⟩
  | .local _ .vmem, ⟨14, _⟩ => ⟨S8x512x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S2x16384x1024 : Shape := ⟨3, ![2, 16384, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S2x16384x5632 : Shape := ⟨3, ![2, 16384, 5632]⟩
abbrev S2x16386x5632 : Shape := ⟨3, ![2, 16386, 5632]⟩
abbrev S1x1x5632 : Shape := ⟨3, ![1, 1, 5632]⟩
abbrev S2x16384x2816 : Shape := ⟨3, ![2, 16384, 2816]⟩

abbrev nBuf : Space → Nat
  | .hbm => 101
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S2x1024x5632, .f32⟩
  | .hbm, ⟨3, _⟩ => ⟨S2x3x5632, .f32⟩
  | .hbm, ⟨4, _⟩ => ⟨S2x5632, .f32⟩
  | .hbm, ⟨5, _⟩ => ⟨S2x2816x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S2x16384x1024, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x1024, .f32⟩
  | .hbm, ⟨21, _⟩ => ⟨S2x16384x1024, .f32⟩
  | .hbm, ⟨22, _⟩ => ⟨S1x1x1024, .f32⟩
  | .hbm, ⟨23, _⟩ => ⟨S2x16384x1024, .f32⟩
  | .hbm, ⟨24, _⟩ => ⟨S2x16384x1024, .f32⟩
  | .hbm, ⟨25, _⟩ => ⟨S1x1024x5632, .f32⟩
  | .hbm, ⟨26, _⟩ => ⟨S1024x5632, .f32⟩
  | .hbm, ⟨27, _⟩ => ⟨S1x3x5632, .f32⟩
  | .hbm, ⟨28, _⟩ => ⟨S3x5632, .f32⟩
  | .hbm, ⟨29, _⟩ => ⟨S1x5632, .f32⟩
  | .hbm, ⟨30, _⟩ => ⟨S5632, .f32⟩
  | .hbm, ⟨31, _⟩ => ⟨S1x2816x1024, .f32⟩
  | .hbm, ⟨32, _⟩ => ⟨S2816x1024, .f32⟩
  | .hbm, ⟨33, _⟩ => ⟨S2x16384x5632, .f32⟩
  | .hbm, ⟨34, _⟩ => ⟨S_, .i32⟩
  | .hbm, ⟨35, _⟩ => ⟨S_, .f32⟩
  | .hbm, ⟨36, _⟩ => ⟨S2x16386x5632, .f32⟩
  | .hbm, ⟨37, _⟩ => ⟨S2x16384x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S2x16384x5632, .f32⟩
  | .hbm, ⟨42, _⟩ => ⟨S2x16384x5632, .f32⟩
  | .hbm, ⟨43, _⟩ => ⟨S_, .f32⟩
  | .hbm, ⟨44, _⟩ => ⟨S2x16384x5632, .f32⟩
  | .hbm, ⟨45, _⟩ => ⟨S2x16384x5632, .f32⟩
  | .hbm, ⟨46, _⟩ => ⟨S2x16384x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S2x16384x5632, .f32⟩
  | .hbm, ⟨51, _⟩ => ⟨S2x16384x5632, .f32⟩
  | .hbm, ⟨52, _⟩ => ⟨S2x16384x5632, .f32⟩
  | .hbm, ⟨53, _⟩ => ⟨S2x16384x5632, .f32⟩
  | .hbm, ⟨54, _⟩ => ⟨S1x5632, .f32⟩
  | .hbm, ⟨55, _⟩ => ⟨S5632, .f32⟩
  | .hbm, ⟨56, _⟩ => ⟨S1x1x5632, .f32⟩
  | .hbm, ⟨57, _⟩ => ⟨S2x16384x5632, .f32⟩
  | .hbm, ⟨58, _⟩ => ⟨S2x16384x5632, .f32⟩
  | .hbm, ⟨59, _⟩ => ⟨S2x16384x5632, .f32⟩
  | .hbm, ⟨60, _⟩ => ⟨S1x1x5632, .f32⟩
  | .hbm, ⟨61, _⟩ => ⟨S2x16384x5632, .f32⟩
  | .hbm, ⟨62, _⟩ => ⟨S2x16384x5632, .f32⟩
  | .hbm, ⟨63, _⟩ => ⟨S2x16384x2816, .f32⟩
  | .hbm, ⟨64, _⟩ => ⟨S2x16384x2816, .f32⟩
  | .hbm, ⟨65, _⟩ => ⟨S2x16384x2816, .f32⟩
  | .hbm, ⟨66, _⟩ => ⟨S2x16384x2816, .f32⟩
  | .hbm, ⟨67, _⟩ => ⟨S_, .f32⟩
  | .hbm, ⟨68, _⟩ => ⟨S2x16384x2816, .f32⟩
  | .hbm, ⟨69, _⟩ => ⟨S2x16384x2816, .f32⟩
  | .hbm, ⟨70, _⟩ => ⟨S2x16384x2816, .f32⟩
  | .hbm, ⟨71, _⟩ => ⟨S_, .f32⟩
  | .hbm, ⟨72, _⟩ => ⟨S2x16384x2816, .f32⟩
  | .hbm, ⟨73, _⟩ => ⟨S2x16384x2816, .f32⟩
  | .hbm, ⟨74, _⟩ => ⟨S2x16384x2816, .f32⟩
  | .hbm, ⟨75, _⟩ => ⟨S_, .f32⟩
  | .hbm, ⟨76, _⟩ => ⟨S2x16384x2816, .f32⟩
  | .hbm, ⟨77, _⟩ => ⟨S2x16384x2816, .f32⟩
  | .hbm, ⟨78, _⟩ => ⟨S_, .f32⟩
  | .hbm, ⟨79, _⟩ => ⟨S2x16384x2816, .f32⟩
  | .hbm, ⟨80, _⟩ => ⟨S2x16384x2816, .f32⟩
  | .hbm, ⟨81, _⟩ => ⟨S2x16384x2816, .f32⟩
  | .hbm, ⟨82, _⟩ => ⟨S2x16384x2816, .f32⟩
  | .hbm, ⟨83, _⟩ => ⟨S2x16384x1024, .f32⟩
  | .hbm, ⟨84, _⟩ => ⟨S2x16384x1024, .f32⟩
  | .hbm, ⟨85, _⟩ => ⟨S2x16384x1024, .f32⟩
  | .hbm, ⟨86, _⟩ => ⟨S_, .f32⟩
  | .hbm, ⟨87, _⟩ => ⟨S2x16384, .f32⟩
  | .hbm, ⟨88, _⟩ => ⟨S2x16384x1, .f32⟩
  | .hbm, ⟨89, _⟩ => ⟨S_, .f32⟩
  | .hbm, ⟨90, _⟩ => ⟨S2x16384x1, .f32⟩
  | .hbm, ⟨91, _⟩ => ⟨S2x16384x1, .f32⟩
  | .hbm, ⟨92, _⟩ => ⟨S_, .f32⟩
  | .hbm, ⟨93, _⟩ => ⟨S2x16384x1, .f32⟩
  | .hbm, ⟨94, _⟩ => ⟨S2x16384x1, .f32⟩
  | .hbm, ⟨95, _⟩ => ⟨S2x16384x1, .f32⟩
  | .hbm, ⟨96, _⟩ => ⟨S2x16384x1024, .f32⟩
  | .hbm, ⟨97, _⟩ => ⟨S2x16384x1024, .f32⟩
  | .hbm, ⟨98, _⟩ => ⟨S1x1x1024, .f32⟩
  | .hbm, ⟨99, _⟩ => ⟨S2x16384x1024, .f32⟩
  | .hbm, ⟨100, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_3 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_5 : Ref sig .tc := ⟨.hbm, 75, rfl⟩
abbrev main_v60 : Ref sig .tc := ⟨.hbm, 76, rfl⟩
abbrev main_v61 : Ref sig .tc := ⟨.hbm, 77, rfl⟩
abbrev main_cst_6 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_7 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_cst_9 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x16384x512 : Shape := ⟨3, ![2, 16384, 512]⟩
abbrev S1x1536x1024 : Shape := ⟨3, ![1, 1536, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x1x1024 : Shape := ⟨3, ![2, 1, 1024]⟩
abbrev S2x1x5632 : Shape := ⟨3, ![2, 1, 5632]⟩
abbrev S1536x1024 : Shape := ⟨2, ![1536, 1024]⟩
abbrev S_ : Shape := ⟨0, ![]⟩
abbrev S1024 : Shape := ⟨1, ![1024]⟩
abbrev S1x1024 : Shape := ⟨2, ![1, 1024]⟩
abbrev S1x512x1024 : Shape := ⟨3, ![1, 512, 1024]⟩
abbrev S1x512x512 : Shape := ⟨3, ![1, 512, 512]⟩
abbrev S1x1x1024 : Shape := ⟨3, ![1, 1, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S512x1024 : Shape := ⟨2, ![512, 1024]⟩
abbrev S2x4x520x128 : Shape := ⟨4, ![2, 4, 520, 128]⟩
abbrev S44x8x128 : Shape := ⟨3, ![44, 8, 128]⟩
abbrev S512x2816 : Shape := ⟨2, ![512, 2816]⟩
abbrev S8x512x128 : Shape := ⟨3, ![8, 512, 128]⟩
abbrev S1024x1024 : Shape := ⟨2, ![1024, 1024]⟩
abbrev S512x512 : Shape := ⟨2, ![512, 512]⟩
abbrev S512x128 : Shape := ⟨2, ![512, 128]⟩
abbrev S1x512x128 : Shape := ⟨3, ![1, 512, 128]⟩
abbrev S1x32x1024 : Shape := ⟨3, ![1, 32, 1024]⟩
abbrev S32x1024 : Shape := ⟨2, ![32, 1024]⟩
abbrev S1x32x128 : Shape := ⟨3, ![1, 32, 128]⟩
abbrev S32x128 : Shape := ⟨2, ![32, 128]⟩
abbrev S32 : Shape := ⟨1, ![32]⟩
abbrev S32x1 : Shape := ⟨2, ![32, 1]⟩
abbrev S1x1024x256 : Shape := ⟨3, ![1, 1024, 256]⟩
abbrev S1024x256 : Shape := ⟨2, ![1024, 256]⟩
abbrev S512x256 : Shape := ⟨2, ![512, 256]⟩
abbrev S1x8x128 : Shape := ⟨3, ![1, 8, 128]⟩
abbrev S8x128 : Shape := ⟨2, ![8, 128]⟩
abbrev S1x1x8x128 : Shape := ⟨4, ![1, 1, 8, 128]⟩
abbrev S1x1x512x128 : Shape := ⟨4, ![1, 1, 512, 128]⟩
abbrev S1x1x128 : Shape := ⟨3, ![1, 1, 128]⟩
abbrev S1x128 : Shape := ⟨2, ![1, 128]⟩
abbrev S1x1x64x128 : Shape := ⟨4, ![1, 1, 64, 128]⟩
abbrev S64x128 : Shape := ⟨2, ![64, 128]⟩
abbrev S2816x1024 : Shape := ⟨2, ![2816, 1024]⟩
abbrev S256x128 : Shape := ⟨2, ![256, 128]⟩
abbrev S1x256x128 : Shape := ⟨3, ![1, 256, 128]⟩

abbrev nBuf : Space → Nat
  | .hbm => 19
  | .vmem => 20
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S2x16384x512, .bf16⟩
  | .hbm, ⟨3, _⟩ => ⟨S1x1536x1024, .f32⟩
  | .hbm, ⟨4, _⟩ => ⟨S2x1024, .f32⟩
  | .hbm, ⟨5, _⟩ => ⟨S2x1024x5632, .f32⟩
  | .hbm, ⟨6, _⟩ => ⟨S2x3x5632, .f32⟩
  | .hbm, ⟨7, _⟩ => ⟨S2x5632, .f32⟩
  | .hbm, ⟨8, _⟩ => ⟨S2x2816x1024, .f32⟩
  | .hbm, ⟨9, _⟩ => ⟨S2x1x1024, .f32⟩
  | .hbm, ⟨10, _⟩ => ⟨S2x1024x5632, .bf16⟩
  | .hbm, ⟨11, _⟩ => ⟨S2x1x5632, .f32⟩
  | .hbm, ⟨12, _⟩ => ⟨S2x2816x1024, .bf16⟩
  | .hbm, ⟨13, _⟩ => ⟨S1536x1024, .f32⟩
  | .hbm, ⟨14, _⟩ => ⟨S1536x1024, .bf16⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1536x1024, .bf16⟩
  | .local _ .vmem, ⟨7, _⟩ => ⟨S1x1x1024, .f32⟩
  | .local _ .vmem, ⟨8, _⟩ => ⟨S1x1024x5632, .bf16⟩
  | .local _ .vmem, ⟨9, _⟩ => ⟨S1x3x5632, .f32⟩
  | .local _ .vmem, ⟨10, _⟩ => ⟨S1x1x5632, .f32⟩
  | .local _ .vmem, ⟨11, _⟩ => ⟨S1x2816x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S512x1024, .bf16⟩
  | .local _ .vmem, ⟨16, _⟩ => ⟨S2x4x520x128, .f32⟩
  | .local _ .vmem, ⟨17, _⟩ => ⟨S44x8x128, .f32⟩
  | .local _ .vmem, ⟨18, _⟩ => ⟨S512x2816, .bf16⟩
  | .local _ .vmem, ⟨19, _⟩ => ⟨S8x512x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S2x16384x1024 : Shape := ⟨3, ![2, 16384, 1024]⟩
abbrev S2x16384x512 : Shape := ⟨3, ![2, 16384, 512]⟩
abbrev S1x1536x1024 : Shape := ⟨3, ![1, 1536, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x16384x1536 : Shape := ⟨3, ![2, 16384, 1536]⟩
abbrev S1536x1024 : Shape := ⟨2, ![1536, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S2x16384x5632 : Shape := ⟨3, ![2, 16384, 5632]⟩
abbrev S2x16386x5632 : Shape := ⟨3, ![2, 16386, 5632]⟩
abbrev S1x1x5632 : Shape := ⟨3, ![1, 1, 5632]⟩
abbrev S2x16384x2816 : Shape := ⟨3, ![2, 16384, 2816]⟩

abbrev nBuf : Space → Nat
  | .hbm => 93
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S2x16384x512, .bf16⟩
  | .hbm, ⟨3, _⟩ => ⟨S1x1536x1024, .f32⟩
  | .hbm, ⟨4, _⟩ => ⟨S2x1024, .f32⟩
  | .hbm, ⟨5, _⟩ => ⟨S2x1024x5632, .f32⟩
  | .hbm, ⟨6, _⟩ => ⟨S2x3x5632, .f32⟩
  | .hbm, ⟨7, _⟩ => ⟨S2x5632, .f32⟩
  | .hbm, ⟨8, _⟩ => ⟨S2x2816x1024, .f32⟩
  | .hbm, ⟨9, _⟩ => ⟨S2x16384x1024, .f32⟩
  | .hbm, ⟨10, _⟩ => ⟨S2x16384x512, .f32⟩
  | .hbm, ⟨11, _⟩ => ⟨S2x16384x1536, .f32⟩
  | .hbm, ⟨12, _⟩ => ⟨S1536x1024, .f32⟩
  | .hbm, ⟨13, _⟩ => ⟨S2x16384x1024, .f32⟩
  | .hbm, ⟨14, _⟩ => ⟨S2x16384x1024, .f32⟩
  | .hbm, ⟨15, _⟩ => ⟨S1x1024, .f32⟩
  | .hbm, ⟨16, _⟩ => ⟨S1024, .f32⟩
  | .hbm, ⟨17, _⟩ => ⟨S2x16384x1024, .f32⟩
  | .hbm, ⟨18, _⟩ => ⟨S_, .f32⟩
  | .hbm, ⟨19, _⟩ => ⟨S2x16384, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S_, .f32⟩
  | .hbm, ⟨25, _⟩ => ⟨S2x16384x1, .f32⟩
  | .hbm, ⟨26, _⟩ => ⟨S2x16384x1, .f32⟩
  | .hbm, ⟨27, _⟩ => ⟨S2x16384x1, .f32⟩
  | .hbm, ⟨28, _⟩ => ⟨S2x16384x1024, .f32⟩
  | .hbm, ⟨29, _⟩ => ⟨S2x16384x1024, .f32⟩
  | .hbm, ⟨30, _⟩ => ⟨S1x1x1024, .f32⟩
  | .hbm, ⟨31, _⟩ => ⟨S2x16384x1024, .f32⟩
  | .hbm, ⟨32, _⟩ => ⟨S2x16384x1024, .f32⟩
  | .hbm, ⟨33, _⟩ => ⟨S1x1024x5632, .f32⟩
  | .hbm, ⟨34, _⟩ => ⟨S1024x5632, .f32⟩
  | .hbm, ⟨35, _⟩ => ⟨S1x3x5632, .f32⟩
  | .hbm, ⟨36, _⟩ => ⟨S3x5632, .f32⟩
  | .hbm, ⟨37, _⟩ => ⟨S1x5632, .f32⟩
  | .hbm, ⟨38, _⟩ => ⟨S5632, .f32⟩
  | .hbm, ⟨39, _⟩ => ⟨S1x2816x1024, .f32⟩
  | .hbm, ⟨40, _⟩ => ⟨S2816x1024, .f32⟩
  | .hbm, ⟨41, _⟩ => ⟨S2x16384x5632, .f32⟩
  | .hbm, ⟨42, _⟩ => ⟨S_, .i32⟩
  | .hbm, ⟨43, _⟩ => ⟨S_, .f32⟩
  | .hbm, ⟨44, _⟩ => ⟨S2x16386x5632, .f32⟩
  | .hbm, ⟨45, _⟩ => ⟨S2x16384x5632, .f32⟩
  | .hbm, ⟨46, _⟩ => ⟨S1x5632, .f32⟩
  | .hbm, ⟨47, _⟩ => ⟨S5632, .f32⟩
  | .hbm, ⟨48, _⟩ => ⟨S1x1x5632, .f32⟩
  | .hbm, ⟨49, _⟩ => ⟨S2x16384x5632, .f32⟩
  | .hbm, ⟨50, _⟩ => ⟨S2x16384x5632, .f32⟩
  | .hbm, ⟨51, _⟩ => ⟨S_, .f32⟩
  | .hbm, ⟨52, _⟩ => ⟨S2x16384x5632, .f32⟩
  | .hbm, ⟨53, _⟩ => ⟨S2x16384x5632, .f32⟩
  | .hbm, ⟨54, _⟩ => ⟨S2x16384x5632, .f32⟩
  | .hbm, ⟨55, _⟩ => ⟨S1x5632, .f32⟩
  | .hbm, ⟨56, _⟩ => ⟨S5632, .f32⟩
  | .hbm, ⟨57, _⟩ => ⟨S1x1x5632, .f32⟩
  | .hbm, ⟨58, _⟩ => ⟨S2x16384x5632, .f32⟩
  | .hbm, ⟨59, _⟩ => ⟨S2x16384x5632, .f32⟩
  | .hbm, ⟨60, _⟩ => ⟨S2x16384x5632, .f32⟩
  | .hbm, ⟨61, _⟩ => ⟨S2x16384x5632, .f32⟩
  | .hbm, ⟨62, _⟩ => ⟨S1x5632, .f32⟩
  | .hbm, ⟨63, _⟩ => ⟨S5632, .f32⟩
  | .hbm, ⟨64, _⟩ => ⟨S1x1x5632, .f32⟩
  | .hbm, ⟨65, _⟩ => ⟨S2x16384x5632, .f32⟩
  | .hbm, ⟨66, _⟩ => ⟨S2x16384x5632, .f32⟩
  | .hbm, ⟨67, _⟩ => ⟨S2x16384x5632, .f32⟩
  | .hbm, ⟨68, _⟩ => ⟨S1x1x5632, .f32⟩
  | .hbm, ⟨69, _⟩ => ⟨S2x16384x5632, .f32⟩
  | .hbm, ⟨70, _⟩ => ⟨S2x16384x5632, .f32⟩
  | .hbm, ⟨71, _⟩ => ⟨S2x16384x2816, .f32⟩
  | .hbm, ⟨72, _⟩ => ⟨S2x16384x2816, .f32⟩
  | .hbm, ⟨73, _⟩ => ⟨S2x16384x2816, .f32⟩
  | .hbm, ⟨74, _⟩ => ⟨S2x16384x2816, .f32⟩
  | .hbm, ⟨75, _⟩ => ⟨S_, .f32⟩
  | .hbm, ⟨76, _⟩ => ⟨S2x16384x2816, .f32⟩
  | .hbm, ⟨77, _⟩ => ⟨S2x16384x2816, .f32⟩
  | .hbm, ⟨78, _⟩ => ⟨S2x16384x2816, .f32⟩
  | .hbm, ⟨79, _⟩ => ⟨S_, .f32⟩
  | .hbm, ⟨80, _⟩ => ⟨S2x16384x2816, .f32⟩
  | .hbm, ⟨81, _⟩ => ⟨S2x16384x2816, .f32⟩
  | .hbm, ⟨82, _⟩ => ⟨S2x16384x2816, .f32⟩
  | .hbm, ⟨83, _⟩ => ⟨S_, .f32⟩
  | .hbm, ⟨84, _⟩ => ⟨S2x16384x2816, .f32⟩
  | .hbm, ⟨85, _⟩ => ⟨S2x16384x2816, .f32⟩
  | .hbm, ⟨86, _⟩ => ⟨S_, .f32⟩
  | .hbm, ⟨87, _⟩ => ⟨S2x16384x2816, .f32⟩
  | .hbm, ⟨88, _⟩ => ⟨S2x16384x2816, .f32⟩
  | .hbm, ⟨89, _⟩ => ⟨S2x16384x2816, .f32⟩
  | .hbm, ⟨90, _⟩ => ⟨S2x16384x2816, .f32⟩
  | .hbm, ⟨91, _⟩ => ⟨S2x16384x1024, .f32⟩
  | .hbm, ⟨92, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call0_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_3 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_4 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_5 : Ref sig .tc := ⟨.hbm, 83, rfl⟩
abbrev main_v66 : Ref sig .tc := ⟨.hbm, 84, rfl⟩
abbrev main_v67 : Ref sig .tc := ⟨.hbm, 85, rfl⟩
abbrev main_cst_6 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩

abbrev nD : Nat := 1
abbrev τ : Topo := Topo.v7x

variable {F : FTy → Type} [FloatOps F]
-- ==== Proof.Sgu.Block.lean ====
/- What one grid point of the spatial-gating kernel computes, as vector functions of the blocks it loads: the
   normalised rows, the GELU of the projection in column blocks of 256, the statistics of the gate half, the
   block-diagonal spatial matrix, the gated rows and the output projection. `run_pieces` says that the kernel's one
   store into its output block is exactly this. -/
module

public import proofs.«01_k».proof.Proof.Gen.KernelIdeal.Value

@[expose] public section

noncomputable section

namespace Cert.Sgu

open Cert.KernelIdeal Cert.KernelIdeal.Gen Idealize.ShloMosaic Idealize.SL.Sem

variable {F : FTy → Type} [FloatOps F]

/-- What a buffer of shape `S` gives under each rectangle that is loaded from it. -/
abbrev Loads (F : FTy → Type) (S : Shape) (e : EltTy) := (r : Rect S) → r.shape.Idx → Elt F e

/-! ## The rectangles -/

/-- 32 rows of the input block, from row `32 n`. -/
abbrev xRect (n : ℕ) (h : n < 32) : Rect S1x1024x1024 :=
  Rect.unit ![0, 32 * n, 0] S1x32x1024.size fun a => match a with
    | ⟨0, _⟩ => by show 0 + 1 ≤ 1; omega
    | ⟨1, _⟩ => by show 32 * n + 32 ≤ 1024; omega
    | ⟨2, _⟩ => by show 0 + 1024 ≤ 1024; omega

/-- 32 rows of the normalised buffer, from row `32 n`. -/
abbrev hRect (n : ℕ) (h : n < 32) : Rect S1024x1024 :=
  Rect.unit ![32 * n, 0] S32x1024.size fun a => match a with
    | ⟨0, _⟩ => by show 32 * n + 32 ≤ 1024; omega
    | ⟨1, _⟩ => by show 0 + 1024 ≤ 1024; omega

/-- 256 columns of the input projection's matrix, from column `256 n`. -/
abbrev wRect (n : ℕ) (h : n < 16) : Rect S1024x4096 :=
  Rect.unit ![0, 256 * n] S1024x256.size fun a => match a with
    | ⟨0, _⟩ => by show 0 + 1024 ≤ 1024; omega
    | ⟨1, _⟩ => by show 256 * n + 256 ≤ 4096; omega

/-- 256 columns of a half, from column `256 n`. -/
abbrev cRect (n : ℕ) (h : n < 8) : Rect S1024x2048 :=
  Rect.unit ![0, 256 * n] S1024x256.size fun a => match a with
    | ⟨0, _⟩ => by show 0 + 1024 ≤ 1024; omega
    | ⟨1, _⟩ => by show 256 * n + 256 ≤ 2048; omega

/-- The square of 256 rows from row `256 p` and 256 columns from column `256 n` of a half. -/
abbrev qRect (p n : ℕ) (hp : p < 4) (h : n < 8) : Rect S1024x2048 :=
  Rect.unit ![256 * p, 256 * n] S256x256.size fun a => match a with
    | ⟨0, _⟩ => by show 256 * p + 256 ≤ 1024; omega
    | ⟨1, _⟩ => by show 256 * n + 256 ≤ 2048; omega

/-- 256 columns of a row vector, from column `256 n`. -/
abbrev gRect (n : ℕ) (h : n < 8) : Rect S1x2048 :=
  Rect.unit ![0, 256 * n] S1x256.size fun a => match a with
    | ⟨0, _⟩ => by show 0 + 1 ≤ 1; omega
    | ⟨1, _⟩ => by show 256 * n + 256 ≤ 2048; omega

/-- Matrix `n` of the stack of eight. -/
abbrev sRect (n : ℕ) (h : n < 8) : Rect S8x256x256 :=
  Rect.unit ![n, 0, 0] S1x256x256.size fun a => match a with
    | ⟨0, _⟩ => by show n + 1 ≤ 8; omega
    | ⟨1, _⟩ => by show 0 + 256 ≤ 256; omega
    | ⟨2, _⟩ => by show 0 + 256 ≤ 256; omega

/-- 256 columns of the bias table, from column `256 n`. -/
abbrev bRect (n : ℕ) (h : n < 8) : Rect S256x2048 :=
  Rect.unit ![0, 256 * n] S256x256.size fun a => match a with
    | ⟨0, _⟩ => by show 0 + 256 ≤ 256; omega
    | ⟨1, _⟩ => by show 256 * n + 256 ≤ 2048; omega

/-! ## The normalised rows -/

/-- The RMS norm of 32 rows, with its gain. -/
def normStrip (x : Vec F S1x32x1024 .f32) (g : Vec F S1x1024 .f32) : FVec F S32x1024 .bf16 :=
  let x' : FVec F S32x1024 .f32 := shapeCast S32x1024 x shapeCasts_S1x32x1024_S32x1024
  let ss : FVec F S32x1 .f32 := shapeCast S32x1 (multiReduction .add [1] S32 (mulf x' x') 0x00000000#32 reduces_S32x1024_S32 (.inl rfl) rfl) shapeCasts_S32_S32x1
  let r : FVec F S32x1 .f32 := rsqrt (addf (divf ss (broadcast S32x1 (Scalar.ofBits .f32 0x44800000#32))) (broadcast S32x1 (Scalar.ofBits .f32 0x358637BD#32)))
  let y : FVec F S32x1024 .f32 := mulf (mulf x' (broadcastTo S32x1024 r broadcasts_S32x1_S32x1024)) (broadcastTo S32x1024 (shapeCast S1x1024 g shapeCasts_S1x1024_S1x1024) broadcasts_S1x1024_S32x1024)
  shapeCast S32x1024 (truncf .bf16 y bitsLt_bf16_f32 : FVec F S32x1024 .bf16) shapeCasts_S32x1024_S32x1024

/-- The first `n` stores into the normalised buffer, the last first. -/
def hPieces (lx : Loads F S1x1024x1024 .f32) (g : Vec F S1x1024 .f32) : (n : ℕ) → n ≤ 32 → List (View.Piece (Elt F) S1024x1024 .bf16)
  | 0, _ => []
  | n + 1, h => ⟨hRect n h, normStrip (lx (xRect n h)) g⟩ :: hPieces lx g n (Nat.le_of_succ_le h)

/-! ## The two halves of the projection -/

/-- GELU (tanh form) of a product with 256 columns of the input matrix. -/
def geluBlk (hn : Vec F S1024x1024 .bf16) (w : Vec F S1024x256 .bf16) : FVec F S1024x256 .f32 :=
  let z : FVec F S1024x256 .f32 := matmul dot_S1024x1024_S1024x256_S1024x256_1_0_0_1_n_n none hn (shapeCast S1024x256 w shapeCasts_S1024x256_S1024x256) (constant S1024x256 .f32 0x00000000#32)
  let t : FVec F S1024x256 .f32 := tanh (mulf (broadcast S1024x256 (Scalar.ofBits .f32 0x3F4C422A#32)) (addf z (mulf (broadcast S1024x256 (Scalar.ofBits .f32 0x3D372713#32)) (mulf (mulf z z) z))))
  mulf (mulf (broadcast S1024x256 (Scalar.ofBits .f32 0x3F000000#32)) z) (addf (broadcast S1024x256 (Scalar.ofBits .f32 0x3F800000#32)) t)

/-- The first `n` stores into a half's buffer, the last first; the half starts at column block `o` of the matrix. -/
def cPieces (hn : Vec F S1024x1024 .bf16) (lw : Loads F S1024x4096 .bf16) (o : ℕ) (ho : o ≤ 8) : (n : ℕ) → n ≤ 8 → List (View.Piece (Elt F) S1024x2048 .f32)
  | 0, _ => []
  | n + 1, h => ⟨cRect n h, shapeCast S1024x256 (geluBlk hn (lw (wRect (o + n) (by omega)))) shapeCasts_S1024x256_S1024x256⟩
      :: cPieces hn lw o ho n (Nat.le_of_succ_le h)

/-- The sum of each row, as a column. -/
def rowSum (v : FVec F S1024x256 .f32) : FVec F S1024x1 .f32 :=
  shapeCast S1024x1 (multiReduction .add [1] S1024 v 0x00000000#32 reduces_S1024x256_S1024 (.inl rfl) rfl) shapeCasts_S1024_S1024x1

/-- The running sum over the first `n` column blocks of `b`. -/
def accSum (b : (n : ℕ) → n < 8 → FVec F S1024x256 .f32) : (n : ℕ) → n ≤ 8 → FVec F S1024x1 .f32
  | 0, _ => broadcast S1024x1 (Scalar.ofBits .f32 0x00000000#32)
  | n + 1, h => addf (accSum b n (Nat.le_of_succ_le h)) (rowSum (b n h))

/-- A sum over 2048 columns turned into their mean. -/
def overWidth (s : FVec F S1024x1 .f32) : FVec F S1024x1 .f32 :=
  mulf s (broadcast S1024x1 (Scalar.ofBits .f32 0x3A000000#32))

/-- A column block less the rows' mean. -/
def centred (mu : FVec F S1024x1 .f32) (v : Vec F S1024x256 .f32) : FVec F S1024x256 .f32 :=
  subf v (broadcastTo S1024x256 mu broadcasts_S1024x1_S1024x256)

/-- The reciprocal standard deviation from the sum of squared deviations. -/
def rstdOf (s : FVec F S1024x1 .f32) : FVec F S1024x1 .f32 :=
  rsqrt (addf (overWidth s) (broadcast S1024x1 (Scalar.ofBits .f32 0x358637BD#32)))

/-! ## The spatial matrix and the gated rows -/

/-- Floor division of an index vector by a positive word, as the kernel spells it. -/
def floorDiv (a : IVec S256x256 32) (d : BitVec 32) : IVec S256x256 32 :=
  let one : IVec S256x256 32 := broadcast S256x256 1#32
  let zero : IVec S256x256 32 := broadcast S256x256 0#32
  let sgn : IVec S256x256 32 := subi (extui 32 (cmpi .sgt a zero) natLt_1_32) (extui 32 (cmpi .slt a zero) natLt_1_32)
  let q : IVec S256x256 32 := divsi a (broadcast S256x256 d)
  select (andi (cmpi .ne sgn one) (cmpi .ne (remsi a (broadcast S256x256 d)) zero)) (subi q one) q

/-- Which entries of a 256×256 spatial matrix are kept: those of the same block of 128 whose chunk of 64 is not later. -/
def keep : IVec S256x256 1 :=
  let ri : IVec S256x256 32 := iota .tc S256x256 32 [0] iota_S256x256_d0_w32
  let ci : IVec S256x256 32 := iota .tc S256x256 32 [1] iota_S256x256_d1_w32
  andi (cmpi .sle (floorDiv ci 64#32) (floorDiv ri 64#32)) (cmpi .eq (floorDiv ci 128#32) (floorDiv ri 128#32))

/-- The masked spatial matrix. -/
def wMat (w : Vec F S1x256x256 .bf16) : FVec F S256x256 .bf16 :=
  select keep (shapeCast S256x256 w shapeCasts_S1x256x256_S256x256) (broadcast S256x256 (Scalar.ofBits .bf16 0x0000#16))

/-- The layer norm of a column block of the gate half. -/
def vnBlk (mu rs : FVec F S1024x1 .f32) (v : Vec F S1024x256 .f32) (g b : Vec F S1x256 .f32) : FVec F S1024x256 .bf16 :=
  truncf .bf16 (addf (mulf (mulf (centred mu v) (broadcastTo S1024x256 rs broadcasts_S1024x1_S1024x256))
      (broadcastTo S1024x256 (shapeCast S1x256 g shapeCasts_S1x256_S1x256) broadcasts_S1x256_S1024x256))
    (broadcastTo S1024x256 (shapeCast S1x256 b shapeCasts_S1x256_S1x256) broadcasts_S1x256_S1024x256) : FVec F S1024x256 .f32) bitsLt_bf16_f32

/-- A 256×256 square of gated rows: `u` times the spatially mixed gate with its bias. -/
def gated (w vn : FVec F S256x256 .bf16) (b u : Vec F S256x256 .f32) : FVec F S256x256 .bf16 :=
  shapeCast S256x256 (truncf .bf16 (mulf u (addf (matmul dot_S256x256_S256x256_S256x256_1_0_0_1_n_n none w vn (constant S256x256 .f32 0x00000000#32))
    (shapeCast S256x256 b shapeCasts_S256x256_S256x256)) : FVec F S256x256 .f32) bitsLt_bf16_f32 : FVec F S256x256 .bf16) shapeCasts_S256x256_S256x256

/-- A slice of 256 rows from row `256 p` is one of a column block. -/
theorem sliceRows (p : ℕ) (hp : p < 4) : S1024x256.Slices ![256 * p, 0] S256x256 :=
  ⟨rfl, fun a => match a with
    | ⟨0, _⟩ => by show 256 * p + 256 ≤ 1024; omega
    | ⟨1, _⟩ => by show 0 + 256 ≤ 256; omega⟩

/-- The stores of column block `g` into the gated buffer, the last first. -/
def yPieces4 (w : FVec F S256x256 .bf16) (vn : FVec F S1024x256 .bf16) (b : Vec F S256x256 .f32) (lu : Loads F S1024x2048 .f32) (g : ℕ) (hg : g < 8) :
    (n : ℕ) → n ≤ 4 → List (View.Piece (Elt F) S1024x2048 .bf16) → List (View.Piece (Elt F) S1024x2048 .bf16)
  | 0, _, L => L
  | n + 1, h, L => ⟨qRect n g h hg, gated w (extractStridedSlice S256x256 ![256 * n, 0] vn (sliceRows n h)) b (lu (qRect n g h hg))⟩
      :: yPieces4 w vn b lu g hg n (Nat.le_of_succ_le h) L

/-- The stores of the first `n` column blocks into the gated buffer, the last first. -/
def yPieces (ls : Loads F S8x256x256 .bf16) (vn : (n : ℕ) → n < 8 → FVec F S1024x256 .bf16) (lb : Loads F S256x2048 .f32)
    (lu : ℕ → Loads F S1024x2048 .f32) : (n : ℕ) → n ≤ 8 → List (View.Piece (Elt F) S1024x2048 .bf16)
  | 0, _ => []
  | n + 1, h => yPieces4 (wMat (ls (sRect n h))) (vn n h) (lb (bRect n h)) (lu n) n h 4 le_rfl
      (yPieces ls vn lb lu n (Nat.le_of_succ_le h))

/-- The output block: the input plus the gated rows through the output matrix. -/
def outBlk (x : Vec F S1x1024x1024 .f32) (y : Vec F S1024x2048 .bf16) (w : Vec F S2048x1024 .bf16) : FVec F S1x1024x1024 .f32 :=
  shapeCast S1x1024x1024 (addf (shapeCast S1024x1024 x shapeCasts_S1x1024x1024_S1024x1024)
    (matmul dot_S1024x2048_S2048x1024_S1024x1024_1_0_0_1_n_n none y (shapeCast S2048x1024 w shapeCasts_S2048x1024_S2048x1024) (constant S1024x1024 .f32 0x00000000#32)) : FVec F S1024x1024 .f32)
    shapeCasts_S1024x1024_S1x1024x1024

/-! ## The whole point -/

/-- How many column blocks of the first half are stored when the squares of column block `g` are computed. -/
def uCount (g : ℕ) : ℕ := g + 2 - (g + 2 - 8)

/-- At most eight columns of blocks. -/
theorem uCount_le (g : ℕ) : uCount g ≤ 8 := by unfold uCount; omega

section Point
variable (c1 : View sig .tc .vmem S1024x1024 .bf16) (c2 c3 : View sig .tc .vmem S1024x2048 .f32) (c4 : View sig .tc .vmem S1024x2048 .bf16)
  (lx : Loads F S1x1024x1024 .f32) (lg : Loads F S1x1024 .f32) (lw : Loads F S1024x4096 .bf16) (lng lnb : Loads F S1x2048 .f32)
  (ls : Loads F S8x256x256 .bf16) (lb : Loads F S256x2048 .f32) (lo : Loads F S2048x1024 .bf16)

/-- The normalised rows, read back. -/
def hnOf : Vec F S1024x1024 .bf16 :=
  c1.readCov (hPieces lx (lg (Rect.unit ![0, 0] S1x1024.size inb_S1x1024_S1x1024_0_0)) 32 le_rfl) (Rect.unit ![0, 0] S1024x1024.size inb_S1024x1024_S1024x1024_0_0).toLoadRect

/-- The mean of the gate half's rows. -/
def muOf (hn : Vec F S1024x1024 .bf16) : FVec F S1024x1 .f32 :=
  overWidth (accSum (fun n h => geluBlk hn (lw (wRect (8 + n) (by omega)))) 8 le_rfl)

/-- The reciprocal standard deviation of the gate half's rows. -/
def rsOf (mu : FVec F S1024x1 .f32) (lv : Loads F S1024x2048 .f32) : FVec F S1024x1 .f32 :=
  rstdOf (accSum (fun n h => mulf (centred mu (lv (cRect n h))) (centred mu (lv (cRect n h)))) 8 le_rfl)

/-- The gate half, read back. -/
def vLoads (hn : Vec F S1024x1024 .bf16) : Loads F S1024x2048 .f32 := fun r => c2.readCov (cPieces hn lw 8 le_rfl 8 le_rfl) r.toLoadRect

/-- The first half, read back when the squares of column block `g` are computed. -/
def uLoads (hn : Vec F S1024x1024 .bf16) (g : ℕ) : Loads F S1024x2048 .f32 := fun r => c3.readCov (cPieces hn lw 0 (Nat.zero_le _) (uCount g) (uCount_le g)) r.toLoadRect

/-- The gated rows, read back. -/
def yOf (hn : Vec F S1024x1024 .bf16) (mu rs : FVec F S1024x1 .f32) : Vec F S1024x2048 .bf16 :=
  c4.readCov (yPieces ls (fun n h => vnBlk mu rs (vLoads c2 lw hn (cRect n h)) (lng (gRect n h)) (lnb (gRect n h))) lb (uLoads c3 lw hn) 8 le_rfl)
    (Rect.unit ![0, 0] S1024x2048.size inb_S1024x2048_S1024x2048_0_0).toLoadRect

/-- The block a grid point computes. -/
def pointOut : Vec F S1x1024x1024 .f32 :=
  outBlk (lx (Rect.unit ![0, 0, 0] S1x1024x1024.size inb_S1x1024x1024_S1x1024x1024_0_0_0))
    (yOf c2 c3 c4 lw lng lnb ls lb (hnOf c1 lx lg) (muOf lw (hnOf c1 lx lg)) (rsOf (muOf lw (hnOf c1 lx lg)) (vLoads c2 lw (hnOf c1 lx lg))))
    (lo (Rect.unit ![0, 0] S2048x1024.size inb_S2048x1024_S2048x1024_0_0))

end Point

/-- The loads of a whole memref that holds `X`. -/
abbrev loadsOf {S : Shape} {e : EltTy} (a : Memref sig .tc .vmem S e) (h : a.IsWhole) (X : Vec F S e) : Loads F S e :=
  fun r => View.readAt (Elt F) a.view r.toLoadRect (h.unread X)

set_option maxRecDepth 20000 in
/-- The kernel's only store into its output block, made through the whole block, stores `pointOut`. -/
theorem run_pieces (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S8x256x256 .bf16) (harg7 : arg7.IsWhole) (arg8 : Memref sig .tc .vmem S256x2048 .f32) (harg8 : arg8.IsWhole) (arg9 : Memref sig .tc .vmem S2048x1024 .bf16) (harg9 : arg9.IsWhole) (arg10 : Memref sig .tc .vmem S1x1024x1024 .f32) (harg10 : arg10.IsWhole) (arg11 : Memref sig .tc .vmem S1024x1024 .bf16) (harg11 : arg11.IsWhole) (arg12 : Memref sig .tc .vmem S1024x2048 .f32) (harg12 : arg12.IsWhole) (arg13 : Memref sig .tc .vmem S1024x2048 .f32) (harg13 : arg13.IsWhole) (arg14 : Memref sig .tc .vmem S1024x2048 .bf16) (harg14 : arg14.IsWhole)
    (x0 : Vec F S1x1024x1024 .f32) (x1 : Vec F S1x1024 .f32) (x2 : Vec F S1024x4096 .bf16) (x3 : Vec F S1x2048 .f32) (x4 : Vec F S1x2048 .f32) (x5 : Vec F S8x256x256 .bf16) (x6 : Vec F S256x2048 .f32) (x7 : Vec F S2048x1024 .bf16) :
    (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1
      = [⟨Rect.unit ![0, 0, 0] S1x1024x1024.size inb_S1x1024x1024_S1x1024x1024_0_0_0,
          pointOut arg11.view arg12.view arg13.view arg14.view (loadsOf arg2 harg2 x0) (loadsOf arg3 harg3 x1) (loadsOf arg4 harg4 x2)
            (loadsOf arg5 harg5 x3) (loadsOf arg6 harg6 x4) (loadsOf arg7 harg7 x5) (loadsOf arg8 harg8 x6) (loadsOf arg9 harg9 x7)⟩] := by
  sl_kernel_rfl

end Cert.Sgu

end
-- ==== Proof.Sgu.Spec.lean ====
/- The spatial-gating layer in plain mathematics, on the extended reals: the function both programs are shown to
   compute. Rows are functions of a column, a chunk of 128 tokens is a function of a row. -/
module

public import Idealize.ShloMosaic.Lib.Pointwise

@[expose] public section

noncomputable section

namespace Cert.Sgu

open Idealize.ShloMosaic

/-- A row under the RMS norm with gain `g`, at column `k`. -/
def rms (x g : Fin 1024 → EReal) (k : Fin 1024) : EReal :=
  x k * Ideal.rsqrt (Ideal.div (∑ j, x j * x j) (Ideal.ofBits FTy.f32 0x44800000#32) + Ideal.ofBits FTy.f32 0x358637BD#32) * g k

/-- GELU in its tanh form. -/
def gelu (s : EReal) : EReal :=
  s * (Ideal.ofBits FTy.f32 0x3F000000#32 * (1 + Ideal.tanh (Ideal.ofBits FTy.f32 0x3F4C422A#32 * (s + Ideal.ofBits FTy.f32 0x3D372713#32 * (s * s * s)))))

/-- GELU of a normalised row times one column of the input matrix. -/
def proj (h : Fin 1024 → EReal) (W : Fin 1024 → Fin 4096 → EReal) (c : Fin 4096) : EReal :=
  gelu (∑ k, h k * W k c)

/-- A column of the first half, among the columns of the input matrix. -/
def uCol (c : Fin 2048) : Fin 4096 := ⟨c, by have := c.isLt; omega⟩

/-- A column of the gate half, among the columns of the input matrix. -/
def vCol (c : Fin 2048) : Fin 4096 := ⟨2048 + c, by have := c.isLt; omega⟩

/-- The mean of a row of the gate half. -/
def mean (v : Fin 2048 → EReal) : EReal := Ideal.div (∑ c, v c) (Ideal.ofBits FTy.f32 0x45000000#32)

/-- The layer norm of a row of the gate half, at column `c`. -/
def layerNorm (v γ β : Fin 2048 → EReal) (c : Fin 2048) : EReal :=
  (v c - mean v) * Ideal.rsqrt (mean (fun c => (v c - mean v) * (v c - mean v)) + Ideal.ofBits FTy.f32 0x358637BD#32) * γ c + β c

/-- The group of 256 columns that column `c` belongs to. -/
def groupOf (c : Fin 2048) : Fin 8 := ⟨c / 256, by have := c.isLt; omega⟩

/-- The spatial matrix under its mask: a token sees the tokens of its own chunk of 64 and of the earlier one. -/
def masked (w : Fin 128 → Fin 128 → EReal) (i j : Fin 128) : EReal :=
  if j.val / 64 ≤ i.val / 64 then w i j else 0

/-- The gate at a token and a column: the masked spatial matrix times the normalised gate half, plus the bias. -/
def gate (w : Fin 128 → Fin 128 → EReal) (b : Fin 128 → EReal) (vn : Fin 128 → EReal) (i : Fin 128) : EReal :=
  (∑ j, vn j * masked w i j) + b i

/-- The layer on a chunk of 128 tokens `X`, at token `i` and column `d`: the residual stream plus the gated rows through
    the output matrix. -/
def layer (X : Fin 128 → Fin 1024 → EReal) (g : Fin 1024 → EReal) (W : Fin 1024 → Fin 4096 → EReal) (γ β : Fin 2048 → EReal)
    (w : Fin 8 → Fin 128 → Fin 128 → EReal) (b : Fin 8 → Fin 128 → EReal) (Wo : Fin 2048 → Fin 1024 → EReal) (i : Fin 128) (d : Fin 1024) : EReal :=
  X i d + ∑ c, proj (rms (X i) g) W (uCol c)
    * gate (w (groupOf c)) (b (groupOf c)) (fun j => layerNorm (fun c' => proj (rms (X j) g) W (vCol c')) γ β c) i * Wo c d

/-- The layer on both sequences: token `T` of sequence `n` belongs to the chunk of 128 tokens from `128 (T / 128)`. -/
def layerAt (A : Fin 2 → Fin 16384 → Fin 1024 → EReal) (g : Fin 1024 → EReal) (W : Fin 1024 → Fin 4096 → EReal) (γ β : Fin 2048 → EReal)
    (w : Fin 8 → Fin 128 → Fin 128 → EReal) (b : Fin 8 → Fin 128 → EReal) (Wo : Fin 2048 → Fin 1024 → EReal) (n : Fin 2) (T : Fin 16384) (d : Fin 1024) : EReal :=
  layer (fun j => A n ⟨128 * (T.val / 128) + j.val, by have := T.isLt; have := j.isLt; omega⟩) g W γ β w b Wo ⟨T.val % 128, Nat.mod_lt _ (by decide)⟩ d

end Cert.Sgu

end
-- ==== Proof.Sgu.Pieces.lean ====
/- The piece lists of one grid point read back at an index: each list of stores leaves one function of the index. -/
module

public import proofs.«01_k».proof.Proof.Sgu.Block
public import proofs.«01_k».proof.Proof.Sgu.Spec
public import Idealize.ShloMosaic.Lib.Pipeline.ValueKit.Acc
public import Idealize.ShloMosaic.Lib.Pipeline.ValueKit.Tiles

@[expose] public section

noncomputable section

namespace Cert.Sgu

open Cert.KernelIdeal Cert.KernelIdeal.Gen Idealize.ShloMosaic Idealize.SL.Sem

/-- A list of stores whose last agrees with `G`, and whose earlier ones do wherever the last does not reach, leaves `G`. -/
theorem canon_step {S : Shape} {e : EltTy} (G : S.Idx → Elt Ideal e) (r : Rect S) (w : r.shape.Idx → Elt Ideal e) (L : List (View.Piece (Elt Ideal) S e))
    (y : S.Idx) (hp : ∀ x, w x = G (r.emb x)) (hL : y ∉ r.set → View.canon L y = G y) : View.canon (⟨r, w⟩ :: L) y = G y := by
  by_cases hy : y ∈ r.set
  · obtain ⟨x, rfl⟩ := r.exists_idx_of_mem hy
    exact (View.canon_cons_emb r w L x).trans (hp x)
  · rw [View.canon_cons_of_not_mem _ L hy, hL hy]

/-- The loads of a whole memref holding `X` read `X`. -/
theorem loadsOf_eq {F : FTy → Type} [FloatOps F] {S : Shape} {e : EltTy} (a : Memref sig .tc .vmem S e) (h : a.IsWhole) (X : Vec F S e) :
    loadsOf a h X = fun r => View.ld X r := by
  funext r; rw [loadsOf, View.readAt_eq_ld, h.read_unread]

/-! ## The normalised rows -/

/-- A strip of 32 normalised rows at an index. -/
theorem normStrip_apply (x : Vec Ideal S1x32x1024 .f32) (g : Vec Ideal S1x1024 .f32) (i : S32x1024.Idx) :
    normStrip x g i = rms (fun k => x (ix3 0 (i 0) k)) (fun k => g (ix2 0 k)) (i 1) := by
  unfold normStrip rms; pointwise

/-- The normalised rows of a block, at an index. -/
def hnAt (X : Vec Ideal S1x1024x1024 .f32) (g : Vec Ideal S1x1024 .f32) (y : S1024x1024.Idx) : EReal :=
  rms (fun k => X (ix3 0 (y 0) k)) (fun k => g (ix2 0 k)) (y 1)

/-- Where a strip's index lies in the buffer of normalised rows. -/
theorem emb_hRect (n : ℕ) (h : n < 32) (x : (hRect n h).shape.Idx) :
    (hRect n h).emb x = ix2 (⟨32 * n + (x 0).val, by have : (x 0).val < 32 := (x 0).isLt; omega⟩ : Fin 1024) (x 1 : Fin 1024) :=
  funext fun a => match a with
    | ⟨0, _⟩ => Fin.ext (Rect.idx_unit_val _ _ _ x 0)
    | ⟨1, _⟩ => Fin.ext ((Rect.idx_unit_val _ _ _ x 1).trans (Nat.zero_add _))

/-- The buffer of normalised rows after its first `n` strips. -/
theorem hPieces_apply (X : Vec Ideal S1x1024x1024 .f32) (g : Vec Ideal S1x1024 .f32) : ∀ (n : ℕ) (h : n ≤ 32) (y : S1024x1024.Idx), (y 0).val < 32 * n →
    View.canon (hPieces (fun r => View.ld X r) g n h) y = hnAt X g y
  | 0, _, y, hy => absurd hy (by omega)
  | n + 1, h, y, hy => by
    rw [hPieces]
    refine canon_step (e := .bf16) (hnAt X g) _ _ _ y (fun x => ?_) fun hn => ?_
    · rw [emb_hRect, normStrip_apply]
      unfold hnAt
      pointwise
    · refine hPieces_apply X g n _ y ?_
      by_contra hc
      refine hn (Rect.mem_set_unit.mpr fun a => ?_)
      match a with
      | ⟨0, _⟩ => exact ⟨by show 32 * n ≤ (y 0).val; omega, by show (y 0).val < 32 * n + 32; omega⟩
      | ⟨1, _⟩ => exact ⟨Nat.zero_le _, by have : (y 1).val < 1024 := (y 1).isLt; show (y 1).val < 0 + 1024; omega⟩

/-- The whole buffer of normalised rows. -/
theorem hnOf_eq (c1 : View sig .tc .vmem S1024x1024 .bf16) (X : Vec Ideal S1x1024x1024 .f32) (g : Vec Ideal S1x1024 .f32) :
    hnOf c1 (fun r => View.ld X r) (fun r => View.ld g r) = hnAt X g := by
  unfold hnOf
  rw [View.readCov_eq_canon']
  dsimp only
  rw [View.ld_unit_lit' _ g (by decide)]
  funext y
  have e : (Rect.unit ![0, 0] S1024x1024.size inb_S1024x1024_S1024x1024_0_0).toLoadRect.idx y = y :=
    funext fun a => Fin.ext ((Rect.idx_unit_val _ _ _ y a).trans (by fin_cases a <;> exact Nat.zero_add _))
  rw [e]
  exact hPieces_apply X g 32 le_rfl y (y 0).isLt

/-! ## The projection -/

/-- A block of 256 projected columns at an index. -/
theorem geluBlk_apply (hn : Vec Ideal S1024x1024 .bf16) (w : Vec Ideal S1024x256 .bf16) (i : S1024x256.Idx) :
    geluBlk hn w i = gelu (∑ k, hn (ix2 (i 0) k) * w (ix2 k (i 1))) := by
  unfold geluBlk gelu; pointwise
  rw [mul_comm (Ideal.ofBits FTy.f32 0x3F000000#32), mul_assoc]

/-- The projection of the normalised rows `hn` on the columns from `256 o`, at an index. -/
def projAt (hn : Vec Ideal S1024x1024 .bf16) (W : Vec Ideal S1024x4096 .bf16) (o : ℕ) (ho : o ≤ 8) (y : S1024x2048.Idx) : EReal :=
  proj (fun k => hn (ix2 (y 0) k)) (fun k c => W (ix2 k c)) ⟨256 * o + (y 1).val, by have : (y 1).val < 2048 := (y 1).isLt; omega⟩

/-- A column block of the projection, at an index. -/
theorem geluBlk_ld (hn : Vec Ideal S1024x1024 .bf16) (W : Vec Ideal S1024x4096 .bf16) (o : ℕ) (ho : o ≤ 8) (n : ℕ) (h : n < 8) (x : S1024x256.Idx) :
    geluBlk hn (View.ld W (wRect (o + n) (by omega))) x = projAt hn W o ho (ix2 (x 0) ⟨256 * n + (x 1).val, by have : (x 1).val < 256 := (x 1).isLt; omega⟩) := by
  rw [geluBlk_apply, projAt, proj]
  refine congrArg gelu (Finset.sum_congr rfl fun k _ => ?_)
  pointwise
  refine congrArg (fun c => _ * W (ix2 k c)) (Fin.ext ?_)
  show 256 * (o + n) + (x 1).val = 256 * o + (256 * n + (x 1).val)
  omega

/-- Where an index of a block of columns lies in its buffer. -/
theorem emb_cRect (n : ℕ) (h : n < 8) (x : (cRect n h).shape.Idx) :
    (cRect n h).emb x = ix2 (x 0 : Fin 1024) (⟨256 * n + (x 1).val, by have : (x 1).val < 256 := (x 1).isLt; omega⟩ : Fin 2048) :=
  funext fun a => match a with
    | ⟨0, _⟩ => Fin.ext ((Rect.idx_unit_val _ _ _ x 0).trans (Nat.zero_add _))
    | ⟨1, _⟩ => Fin.ext (Rect.idx_unit_val _ _ _ x 1)

/-- A buffer of projected columns after its first `n` blocks. -/
theorem cPieces_apply (hn : Vec Ideal S1024x1024 .bf16) (W : Vec Ideal S1024x4096 .bf16) (o : ℕ) (ho : o ≤ 8) : ∀ (n : ℕ) (h : n ≤ 8) (y : S1024x2048.Idx), (y 1).val < 256 * n →
    View.canon (cPieces hn (fun r => View.ld W r) o ho n h) y = projAt hn W o ho y
  | 0, _, y, hy => absurd hy (by omega)
  | n + 1, h, y, hy => by
    rw [cPieces]
    refine canon_step (e := .f32) (projAt hn W o ho) _ _ _ y (fun x => ?_) fun hc => ?_
    · rw [emb_cRect, shapeCast_self]
      exact geluBlk_ld hn W o ho n h x
    · refine cPieces_apply hn W o ho n _ y ?_
      by_contra hlt
      refine hc (Rect.mem_set_unit.mpr fun a => ?_)
      match a with
      | ⟨0, _⟩ => exact ⟨Nat.zero_le _, by have : (y 0).val < 1024 := (y 0).isLt; show (y 0).val < 0 + 1024; omega⟩
      | ⟨1, _⟩ => exact ⟨by show 256 * n ≤ (y 1).val; omega, by show (y 1).val < 256 * n + 256; omega⟩

/-- A block of columns loaded from the gate half. -/
theorem vLoads_apply (c2 : View sig .tc .vmem S1024x2048 .f32) (hn : Vec Ideal S1024x1024 .bf16) (W : Vec Ideal S1024x4096 .bf16) (n : ℕ) (h : n < 8) (x : S1024x256.Idx) :
    vLoads c2 (fun r => View.ld W r) hn (cRect n h) x = projAt hn W 8 le_rfl (ix2 (x 0) ⟨256 * n + (x 1).val, by have : (x 1).val < 256 := (x 1).isLt; omega⟩) := by
  unfold vLoads
  rw [View.readCov_eq_canon']
  show View.canon _ ((cRect n h).emb x) = _
  rw [emb_cRect]
  exact cPieces_apply hn W 8 le_rfl 8 le_rfl _ (Fin.isLt _)

/-- Where an index of a quarter of a block of columns lies in its buffer. -/
theorem emb_qRect (p n : ℕ) (hp : p < 4) (h : n < 8) (x : (qRect p n hp h).shape.Idx) :
    (qRect p n hp h).emb x = ix2 (⟨256 * p + (x 0).val, by have : (x 0).val < 256 := (x 0).isLt; omega⟩ : Fin 1024)
      (⟨256 * n + (x 1).val, by have : (x 1).val < 256 := (x 1).isLt; omega⟩ : Fin 2048) :=
  funext fun a => match a with
    | ⟨0, _⟩ => Fin.ext (Rect.idx_unit_val _ _ _ x 0)
    | ⟨1, _⟩ => Fin.ext (Rect.idx_unit_val _ _ _ x 1)

/-- A quarter of a block of columns loaded from the gated half. -/
theorem uLoads_apply (c3 : View sig .tc .vmem S1024x2048 .f32) (hn : Vec Ideal S1024x1024 .bf16) (W : Vec Ideal S1024x4096 .bf16) (p n : ℕ) (hp : p < 4) (h : n < 8) (x : S256x256.Idx) :
    uLoads c3 (fun r => View.ld W r) hn n (qRect p n hp h) x = projAt hn W 0 (Nat.zero_le _) ((qRect p n hp h).emb x) := by
  unfold uLoads
  rw [View.readCov_eq_canon']
  show View.canon _ ((qRect p n hp h).emb x) = _
  refine cPieces_apply hn W 0 (Nat.zero_le _) _ _ _ ?_
  rw [emb_qRect]
  have : (x 1).val < 256 := (x 1).isLt
  show 256 * n + (x 1).val < 256 * uCount n
  unfold uCount; omega

/-! ## The statistics -/

/-- Sums over the column blocks, block after block, are the sum over the columns. -/
theorem accSum_apply (b : (n : ℕ) → n < 8 → FVec Ideal S1024x256 .f32) (f : ℕ → EReal) (i : S1024x1.Idx)
    (hb : ∀ (n : ℕ) (h : n < 8) (j : Fin 256), b n h (ix2 (i 0) j) = f (256 * n + j)) :
    ∀ (n : ℕ) (h : n ≤ 8), accSum b n h i = ∑ c ∈ Finset.range (256 * n), f c
  | 0, _ => by unfold accSum; pointwise; exact Finset.sum_range_zero f
  | n + 1, h => by
    rw [accSum, Nat.mul_succ, Finset.sum_range_add, ← accSum_apply b f i hb n (Nat.le_of_succ_le h), Finset.sum_range]
    unfold rowSum
    pointwise
    refine congrArg _ (Finset.sum_congr rfl fun j _ => hb n h j)

/-- A sum of 2048 terms times the word of 1/2048 is the mean. -/
theorem overWidth_apply (s : FVec Ideal S1024x1 .f32) (i : S1024x1.Idx) : overWidth s i = Ideal.div (s i) (Ideal.ofBits FTy.f32 0x45000000#32) := by
  have h1 : Ideal.ofBits FTy.f32 0x45000000#32 = ((2048 : ℝ) : EReal) := by
    simp [Ideal.ofBits, Ideal.ieee, -EReal.coe_mul]; norm_num
  have h2 : Ideal.ofBits FTy.f32 0x3A000000#32 = ((2048⁻¹ : ℝ) : EReal) := by
    simp [Ideal.ofBits, Ideal.ieee, -EReal.coe_mul]; norm_num
  unfold overWidth
  pointwise
  rw [h1, h2, Ideal.div, if_neg (by norm_num), EReal.coe_inv]

end Cert.Sgu

end
-- ==== Proof.Sgu.Gated.lean ====
/- The gated rows of one grid point at an index, and the block the point computes: the output projection of the gated
   rows on top of the input block. -/
module

public import proofs.«01_k».proof.Proof.Sgu.Pieces

@[expose] public section

noncomputable section

namespace Cert.Sgu

open Cert.KernelIdeal Cert.KernelIdeal.Gen Idealize.ShloMosaic Idealize.SL.Sem

/-! ## The mask of the 256×256 spatial matrices -/

/-- The kernel's floor division of one word by a positive word. -/
def floorWord (a d : BitVec 32) : BitVec 32 :=
  Scalar.select (IntOp.andi (IntOp.cmpi CmpIPredicate.ne (IntOp.subi (BitVec.setWidth 32 (IntOp.cmpi CmpIPredicate.sgt a 0#32)) (BitVec.setWidth 32 (IntOp.cmpi CmpIPredicate.slt a 0#32))) 1#32)
      (IntOp.cmpi CmpIPredicate.ne (IntOp.remsi ArithUnit.vector a d) 0#32))
    (IntOp.subi (IntOp.divsi ArithUnit.vector a d) 1#32) (IntOp.divsi ArithUnit.vector a d)

/-- The floor division of a vector of words is the floor division of each word. -/
theorem floorDiv_apply (a : IVec S256x256 32) (d : BitVec 32) (i : S256x256.Idx) : floorDiv a d i = floorWord (a i) d := by
  unfold floorDiv floorWord; pointwise

/-- Of a row or column number below 256 it is the quotient by 64, -/
theorem floorWord_64 : ∀ a : Fin 256, floorWord (BitVec.ofNat 32 a.val) 64#32 = BitVec.ofNat 32 (a.val / 64) := by decide +kernel

/-- and the quotient by 128. -/
theorem floorWord_128 : ∀ a : Fin 256, floorWord (BitVec.ofNat 32 a.val) 128#32 = BitVec.ofNat 32 (a.val / 128) := by decide +kernel

/-- Comparing small quotients as words is comparing them as numbers. -/
theorem sle_small : ∀ a b : Fin 4, IntOp.cmpi CmpIPredicate.sle (BitVec.ofNat 32 a.val) (BitVec.ofNat 32 b.val) = BitVec.ofBool (decide (a.val ≤ b.val)) := by decide +kernel

/-- Equality of two words below two is decided by their values. -/
theorem eq_small : ∀ a b : Fin 2, IntOp.cmpi CmpIPredicate.eq (BitVec.ofNat 32 a.val) (BitVec.ofNat 32 b.val) = BitVec.ofBool (decide (a.val = b.val)) := by decide +kernel

/-- An entry is kept when its column's chunk is not later than its row's and both are in one block of 128. -/
theorem keep_apply (i : S256x256.Idx) : keep i = BitVec.ofBool (decide ((i 1).val / 64 ≤ (i 0).val / 64 ∧ (i 1).val / 128 = (i 0).val / 128)) := by
  have h0 : (i 0).val < 256 := (i 0).isLt
  have h1 : (i 1).val < 256 := (i 1).isLt
  have e0 : iota .tc S256x256 32 [0] iota_S256x256_d0_w32 i = BitVec.ofNat 32 (i 0).val := by pointwise
  have e1 : iota .tc S256x256 32 [1] iota_S256x256_d1_w32 i = BitVec.ofNat 32 (i 1).val := by pointwise
  show IntOp.andi (IntOp.cmpi .sle (floorDiv _ _ i) (floorDiv _ _ i)) (IntOp.cmpi .eq (floorDiv _ _ i) (floorDiv _ _ i)) = _
  simp only [floorDiv_apply, e0, e1]
  rw [floorWord_64 ⟨(i 0).val, h0⟩, floorWord_64 ⟨(i 1).val, h1⟩, floorWord_128 ⟨(i 0).val, h0⟩, floorWord_128 ⟨(i 1).val, h1⟩,
    sle_small ⟨(i 1).val / 64, by omega⟩ ⟨(i 0).val / 64, by omega⟩, eq_small ⟨(i 1).val / 128, by omega⟩ ⟨(i 0).val / 128, by omega⟩]
  by_cases p : (i 1).val / 64 ≤ (i 0).val / 64 <;> by_cases q : (i 1).val / 128 = (i 0).val / 128 <;> simp [p, q, IntOp.andi]

/-- The masked spatial matrix at an index. -/
theorem wMat_apply (w : Vec Ideal S1x256x256 .bf16) (i : S256x256.Idx) :
    wMat w i = if (i 1).val / 64 ≤ (i 0).val / 64 ∧ (i 1).val / 128 = (i 0).val / 128 then w (ix3 0 (i 0) (i 1)) else (0 : EReal) := by
  unfold wMat
  pointwise
  rw [keep_apply, Scalar.select]
  by_cases p : (i 1).val / 64 ≤ (i 0).val / 64 ∧ (i 1).val / 128 = (i 0).val / 128 <;> simp [p]

/-! ## The gated rows -/

/-- The gated row `r` at column `c`, from the two halves, the spatial matrices and the bias table: the rows of one
    square of 256 are mixed with one another only. -/
def yAt (U VN : Fin 1024 → Fin 2048 → EReal) (S : Vec Ideal S8x256x256 .bf16) (B : Vec Ideal S256x2048 .f32) (y : S1024x2048.Idx) : EReal :=
  U (y 0) (y 1) * (∑ k : Fin 256,
      (if k.val / 64 ≤ ((y 0).val % 256) / 64 ∧ k.val / 128 = ((y 0).val % 256) / 128 then
        (S (ix3 (groupOf (y 1)) (⟨(y 0).val % 256, Nat.mod_lt _ (by decide)⟩ : Fin 256) k) : EReal) else 0)
      * VN ⟨256 * ((y 0).val / 256) + k.val, by have : (y 0).val < 1024 := (y 0).isLt; have := k.isLt; omega⟩ (y 1)
    + B (ix2 (⟨(y 0).val % 256, Nat.mod_lt _ (by decide)⟩ : Fin 256) (y 1)))

/-- A gated quarter of the block, read at an index. -/
theorem gated_slice (w : FVec Ideal S256x256 .bf16) (vn : FVec Ideal S1024x256 .bf16) (p : ℕ) (hp : p < 4) (b u : Vec Ideal S256x256 .f32) (x : S256x256.Idx) :
    gated w (extractStridedSlice S256x256 ![256 * p, 0] vn (sliceRows p hp)) b u x
      = u x * (∑ k : Fin 256, w (ix2 (x 0) k) * vn (ix2 (⟨256 * p + k.val, by have := k.isLt; omega⟩ : Fin 1024) (x 1)) + b x) := by
  unfold gated; pointwise

/-- A store into square `(p, g)` of the gated buffer is `yAt` there. -/
theorem gated_eq (U VN : Fin 1024 → Fin 2048 → EReal) (S : Vec Ideal S8x256x256 .bf16) (B : Vec Ideal S256x2048 .f32)
    (p g : ℕ) (hp : p < 4) (hg : g < 8) (vn : FVec Ideal S1024x256 .bf16) (u : Vec Ideal S256x256 .f32)
    (hvn : ∀ (r : Fin 1024) (j : Fin 256), vn (ix2 r j) = VN r ⟨256 * g + j.val, by have := j.isLt; omega⟩)
    (hu : ∀ x : S256x256.Idx, u x = U ⟨256 * p + (x 0).val, by have : (x 0).val < 256 := (x 0).isLt; omega⟩ ⟨256 * g + (x 1).val, by have : (x 1).val < 256 := (x 1).isLt; omega⟩)
    (x : S256x256.Idx) :
    gated (wMat (View.ld S (sRect g hg))) (extractStridedSlice S256x256 ![256 * p, 0] vn (sliceRows p hp)) (View.ld B (bRect g hg)) u x
      = yAt U VN S B ((qRect p g hp hg).emb x) := by
  have h0 : (x 0).val < 256 := (x 0).isLt
  have h1 : (x 1).val < 256 := (x 1).isLt
  rw [emb_qRect, gated_slice _ _ p hp, yAt, hu]
  have eg : groupOf (⟨256 * g + (x 1).val, by omega⟩ : Fin 2048) = ⟨g, hg⟩ := Fin.ext (by show (256 * g + (x 1).val) / 256 = g; omega)
  have er : (⟨(256 * p + (x 0).val) % 256, Nat.mod_lt _ (by decide)⟩ : Fin 256) = x 0 := Fin.ext (by show (256 * p + (x 0).val) % 256 = (x 0).val; omega)
  have ev : (256 * p + (x 0).val) % 256 = (x 0).val := by omega
  have ed : (256 * p + (x 0).val) / 256 = p := by omega
  refine congrArg₂ (· * ·) rfl (congrArg₂ (· + ·) (Finset.sum_congr rfl fun k _ => ?_) ?_)
  · show wMat (F := Ideal) (View.ld S (sRect g hg)) (ix2 (x 0) k) * vn (ix2 (⟨256 * p + k.val, by have := k.isLt; omega⟩ : Fin 1024) (x 1)) = (if k.val / 64 ≤ (256 * p + (x 0).val) % 256 / 64 ∧ k.val / 128 = (256 * p + (x 0).val) % 256 / 128 then
        (S (ix3 (groupOf (⟨256 * g + (x 1).val, by omega⟩ : Fin 2048)) (⟨(256 * p + (x 0).val) % 256, Nat.mod_lt _ (by decide)⟩ : Fin 256) k) : EReal) else 0)
      * VN ⟨256 * ((256 * p + (x 0).val) / 256) + k.val, _⟩ (⟨256 * g + (x 1).val, by omega⟩ : Fin 2048)
    simp only [eg, er, ev, ed]
    refine congrArg₂ (· * ·) ((wMat_apply _ _).trans (if_congr Iff.rfl ?_ rfl)) (hvn _ (x 1))
    pointwise
  · show View.ld B (bRect g hg) x = B (ix2 (⟨(256 * p + (x 0).val) % 256, Nat.mod_lt _ (by decide)⟩ : Fin 256) (⟨256 * g + (x 1).val, by omega⟩ : Fin 2048))
    rw [er]
    pointwise

section Stores
variable (U VN : Fin 1024 → Fin 2048 → EReal) (S : Vec Ideal S8x256x256 .bf16) (B : Vec Ideal S256x2048 .f32)

/-- The squares of column block `g` over earlier stores: `yAt` in the rows stored so far, and the earlier stores in the
    other column blocks. -/
theorem yPieces4_apply (g : ℕ) (hg : g < 8) (vn : FVec Ideal S1024x256 .bf16) (lu : Loads Ideal S1024x2048 .f32) (L : List (View.Piece (Elt Ideal) S1024x2048 .bf16))
    (hvn : ∀ (r : Fin 1024) (j : Fin 256), vn (ix2 r j) = VN r ⟨256 * g + j.val, by have := j.isLt; omega⟩)
    (hu : ∀ (p : ℕ) (hp : p < 4) (x : S256x256.Idx), lu (qRect p g hp hg) x = U ⟨256 * p + (x 0).val, by have : (x 0).val < 256 := (x 0).isLt; omega⟩ ⟨256 * g + (x 1).val, by have : (x 1).val < 256 := (x 1).isLt; omega⟩)
    (y : S1024x2048.Idx) (hL : (y 1).val / 256 ≠ g → View.canon L y = yAt U VN S B y) : ∀ (n : ℕ) (h : n ≤ 4), (y 0).val < 256 * n ∨ (y 1).val / 256 ≠ g →
    View.canon (yPieces4 (wMat (View.ld S (sRect g hg))) vn (View.ld B (bRect g hg)) lu g hg n h L) y = yAt U VN S B y
  | 0, _, hy => by
    rw [yPieces4]; exact hL (hy.resolve_left (by omega))
  | n + 1, h, hy => by
    rw [yPieces4]
    refine canon_step (e := .bf16) (yAt U VN S B) _ _ _ y (fun x => ?_) fun hc => ?_
    · exact gated_eq U VN S B n g h hg vn _ hvn (hu n h) x
    · refine yPieces4_apply g hg vn lu L hvn hu y hL n (Nat.le_of_succ_le h) ?_
      by_contra hlt
      have h1 : (y 1).val / 256 = g := by omega
      refine hc (Rect.mem_set_unit.mpr fun a => ?_)
      match a with
      | ⟨0, _⟩ => exact ⟨by show 256 * n ≤ (y 0).val; omega, by show (y 0).val < 256 * n + 256; omega⟩
      | ⟨1, _⟩ => exact ⟨by show 256 * g ≤ (y 1).val; omega, by show (y 1).val < 256 * g + 256; omega⟩

/-- All the stores of the first `n` column blocks. -/
theorem yPieces_apply (vn : (n : ℕ) → n < 8 → FVec Ideal S1024x256 .bf16) (lu : ℕ → Loads Ideal S1024x2048 .f32)
    (hvn : ∀ (g : ℕ) (hg : g < 8) (r : Fin 1024) (j : Fin 256), vn g hg (ix2 r j) = VN r ⟨256 * g + j.val, by have := j.isLt; omega⟩)
    (hu : ∀ (g : ℕ) (hg : g < 8) (p : ℕ) (hp : p < 4) (x : S256x256.Idx), lu g (qRect p g hp hg) x = U ⟨256 * p + (x 0).val, by have : (x 0).val < 256 := (x 0).isLt; omega⟩ ⟨256 * g + (x 1).val, by have : (x 1).val < 256 := (x 1).isLt; omega⟩)
    (y : S1024x2048.Idx) : ∀ (n : ℕ) (h : n ≤ 8), (y 1).val / 256 < n →
    View.canon (yPieces (fun r => View.ld S r) vn (fun r => View.ld B r) lu n h) y = yAt U VN S B y
  | 0, _, hy => absurd hy (by omega)
  | n + 1, h, hy => by
    rw [yPieces]
    refine yPieces4_apply U VN S B n h (vn n h) (lu n) _ (hvn n h) (hu n h) y (fun hne => ?_) 4 le_rfl (Or.inl (y 0).isLt)
    exact yPieces_apply vn lu hvn hu y n _ (by omega)

end Stores

/-! ## The whole point -/

/-- The output block at an index: the stream plus the output projection. -/
theorem outBlk_apply (x : Vec Ideal S1x1024x1024 .f32) (y : Vec Ideal S1024x2048 .bf16) (w : Vec Ideal S2048x1024 .bf16) (i : S1x1024x1024.Idx) :
    outBlk x y w i = x i + ∑ c, y (ix2 (i 1) c) * w (ix2 c (i 2)) := by
  unfold outBlk; pointwise

section Point
variable (X : Vec Ideal S1x1024x1024 .f32) (G : Vec Ideal S1x1024 .f32) (W : Vec Ideal S1024x4096 .bf16) (Γ Β : Vec Ideal S1x2048 .f32)
  (S : Vec Ideal S8x256x256 .bf16) (B : Vec Ideal S256x2048 .f32) (Wo : Vec Ideal S2048x1024 .bf16)

/-- Row `r` of the block, normalised. -/
def rowN (r : Fin 1024) : Fin 1024 → EReal := rms (fun k => X (ix3 0 r k)) (fun k => G (ix2 0 k))

/-- Row `r` of the gate half. -/
def rowV (r : Fin 1024) (c : Fin 2048) : EReal := proj (rowN X G r) (fun k c => W (ix2 k c)) (vCol c)

/-- Row `r` of the first half. -/
def rowU (r : Fin 1024) (c : Fin 2048) : EReal := proj (rowN X G r) (fun k c => W (ix2 k c)) (uCol c)

/-- Row `r` of the gate half under its layer norm. -/
def rowL (r : Fin 1024) : Fin 2048 → EReal := layerNorm (rowV X G W r) (fun c => Γ (ix2 0 c)) (fun c => Β (ix2 0 c))

/-- The upper half of the projection is the gate half. -/
theorem projAt_v (y : S1024x2048.Idx) : projAt (hnAt X G) W 8 le_rfl y = rowV X G W (y 0) (y 1) := rfl

/-- The lower half of the projection is the gated half. -/
theorem projAt_u (y : S1024x2048.Idx) : projAt (hnAt X G) W 0 (Nat.zero_le _) y = rowU X G W (y 0) (y 1) := by
  unfold projAt rowU proj
  have e : (⟨256 * 0 + (y 1).val, by have : (y 1).val < 2048 := (y 1).isLt; omega⟩ : Fin 4096) = uCol (y 1) := Fin.ext (by show 256 * 0 + (y 1).val = (y 1).val; omega)
  rw [e]
  rfl

/-- The row means of the gate half. -/
theorem muOf_apply (i : S1024x1.Idx) : muOf (fun r => View.ld W r) (hnAt X G) i = mean (rowV X G W (i 0)) := by
  unfold muOf mean
  rw [overWidth_apply, accSum_apply _ (fun c => if h : c < 2048 then rowV X G W (i 0) ⟨c, h⟩ else 0) i (fun n h j => ?_) 8 le_rfl, Finset.sum_range]
  · refine congrArg (Ideal.div · _) (Finset.sum_congr rfl fun c _ => ?_)
    exact dif_pos c.isLt
  · have hj := j.isLt
    rw [geluBlk_ld (hnAt X G) W 8 le_rfl n h, projAt_v]
    rw [dif_pos (by omega : 256 * n + j.val < 2048)]
    rfl

/-- A centred block at an index. -/
theorem centred_apply (mu : FVec Ideal S1024x1 .f32) (v : Vec Ideal S1024x256 .f32) (i : S1024x256.Idx) :
    centred mu v i = v i - mu (ix2 (i 0) 0) := by
  unfold centred; pointwise

/-- The reciprocal deviations of the gate half. -/
theorem rsOf_apply (c2 : View sig .tc .vmem S1024x2048 .f32) (i : S1024x1.Idx) :
    rsOf (muOf (fun r => View.ld W r) (hnAt X G)) (vLoads c2 (fun r => View.ld W r) (hnAt X G)) i
      = Ideal.rsqrt (mean (fun c => (rowV X G W (i 0) c - mean (rowV X G W (i 0))) * (rowV X G W (i 0) c - mean (rowV X G W (i 0)))) + Ideal.ofBits FTy.f32 0x358637BD#32) := by
  unfold rsOf rstdOf
  pointwise
  rw [overWidth_apply, accSum_apply _ (fun c => if h : c < 2048 then (rowV X G W (i 0) ⟨c, h⟩ - mean (rowV X G W (i 0))) * (rowV X G W (i 0) ⟨c, h⟩ - mean (rowV X G W (i 0))) else 0) i (fun n h j => ?_) 8 le_rfl, Finset.sum_range, mean]
  · refine congrArg (fun s => Ideal.rsqrt (Ideal.div s _ + _)) (Finset.sum_congr rfl fun c _ => ?_)
    exact dif_pos c.isLt
  · have hj := j.isLt
    rw [mulf_apply, centred_apply, muOf_apply, vLoads_apply, projAt_v]
    rw [dif_pos (by omega : 256 * n + j.val < 2048)]
    rfl

/-- A block of the gate half under its layer norm, at an index. -/
theorem vnBlk_apply (mu rs : FVec Ideal S1024x1 .f32) (v : Vec Ideal S1024x256 .f32) (g b : Vec Ideal S1x256 .f32) (i : S1024x256.Idx) :
    vnBlk mu rs v g b i = (v i - mu (ix2 (i 0) 0)) * rs (ix2 (i 0) 0) * g (ix2 0 (i 1)) + b (ix2 0 (i 1)) := by
  unfold vnBlk centred; pointwise

/-- The gated rows the kernel leaves in its last buffer. -/
theorem yOf_eq (c2 c3 : View sig .tc .vmem S1024x2048 .f32) (c4 : View sig .tc .vmem S1024x2048 .bf16) :
    yOf c2 c3 c4 (fun r => View.ld W r) (fun r => View.ld Γ r) (fun r => View.ld Β r) (fun r => View.ld S r) (fun r => View.ld B r) (hnAt X G)
      (muOf (fun r => View.ld W r) (hnAt X G)) (rsOf (muOf (fun r => View.ld W r) (hnAt X G)) (vLoads c2 (fun r => View.ld W r) (hnAt X G)))
      = yAt (rowU X G W) (rowL X G W Γ Β) S B := by
  unfold yOf
  rw [View.readCov_eq_canon']
  funext y
  have e : (Rect.unit ![0, 0] S1024x2048.size inb_S1024x2048_S1024x2048_0_0).toLoadRect.idx y = y :=
    funext fun a => Fin.ext ((Rect.idx_unit_val _ _ _ y a).trans (by fin_cases a <;> exact Nat.zero_add _))
  rw [e]
  refine yPieces_apply _ _ S B _ _ (fun g hg r j => ?_) (fun g hg p hp x => ?_) y 8 le_rfl (by have : (y 1).val < 2048 := (y 1).isLt; omega)
  · rw [vnBlk_apply, vLoads_apply, projAt_v, muOf_apply, rsOf_apply, rowL, layerNorm]
    pointwise
  · rw [uLoads_apply, projAt_u, emb_qRect]
    rfl

/-- The block a grid point computes, at an index. -/
theorem pointOut_apply (c1 : View sig .tc .vmem S1024x1024 .bf16) (c2 c3 : View sig .tc .vmem S1024x2048 .f32) (c4 : View sig .tc .vmem S1024x2048 .bf16) (i : S1x1024x1024.Idx) :
    pointOut c1 c2 c3 c4 (fun r => View.ld X r) (fun r => View.ld G r) (fun r => View.ld W r) (fun r => View.ld Γ r) (fun r => View.ld Β r)
        (fun r => View.ld S r) (fun r => View.ld B r) (fun r => View.ld Wo r) i
      = X i + ∑ c, yAt (rowU X G W) (rowL X G W Γ Β) S B (ix2 (i 1) c) * Wo (ix2 c (i 2)) := by
  unfold pointOut
  rw [hnOf_eq, yOf_eq, outBlk_apply]
  dsimp only
  rw [View.ld_unit_lit' _ X (by decide), View.ld_unit_lit' _ Wo (by decide)]

end Point

end Cert.Sgu

end
-- ==== Proof.Sgu.Mix.lean ====
/- The mixing of 256 rows at once by a block-diagonal matrix is the mixing of 128 rows by one of its blocks; so one
   grid point's block is the layer on the tokens of the block. -/
module

public import proofs.«01_k».proof.Proof.Sgu.Gated

@[expose] public section

noncomputable section

namespace Cert.Sgu

open Cert.KernelIdeal Cert.KernelIdeal.Gen Idealize.ShloMosaic Idealize.SL.Sem

/-- A sum of 256 terms that vanish outside one half is the sum over that half. -/
theorem sum_half (e : ℕ) (he : e < 2) (f : Fin 256 → EReal) (hf : ∀ k : Fin 256, k.val / 128 ≠ e → f k = 0) :
    ∑ k, f k = ∑ j : Fin 128, f ⟨128 * e + j.val, by have := j.isLt; omega⟩ := by
  rw [show ∑ k, f k = ∑ k : Fin (128 + 128), f k from rfl, Fin.sum_univ_add]
  have h0 : e ≠ 0 → ∑ j : Fin 128, f (Fin.castAdd 128 j) = 0 := fun h =>
    Finset.sum_eq_zero fun j _ => hf _ (by have := j.isLt; show j.val / 128 ≠ e; omega)
  have h1 : e ≠ 1 → ∑ j : Fin 128, f (Fin.natAdd 128 j) = 0 := fun h =>
    Finset.sum_eq_zero fun j _ => hf _ (by have := j.isLt; show (128 + j.val) / 128 ≠ e; omega)
  rcases (by omega : e = 0 ∨ e = 1) with rfl | rfl
  · rw [h1 (by decide), add_zero]
    exact Finset.sum_congr rfl fun j _ => congrArg f (Fin.ext (by show j.val = 128 * 0 + j.val; omega))
  · rw [h0 (by decide), zero_add]
    rfl

variable (X : Vec Ideal S1x1024x1024 .f32) (G : Vec Ideal S1x1024 .f32) (W : Vec Ideal S1024x4096 .bf16) (Γ Β : Vec Ideal S1x2048 .f32)
  (S : Vec Ideal S8x256x256 .bf16) (B : Vec Ideal S256x2048 .f32) (Wo : Vec Ideal S2048x1024 .bf16)
  (A : Fin 2 → Fin 16384 → Fin 1024 → EReal) (w : Fin 8 → Fin 128 → Fin 128 → EReal) (b : Fin 8 → Fin 128 → EReal)

/-- A gated row of a block, when the spatial matrices are block diagonal and the bias table repeats every 128 rows. -/
theorem yAt_eq (hS : ∀ (g : Fin 8) (i k : Fin 256), k.val / 128 = i.val / 128 → (S (ix3 g i k) : EReal) = w g ⟨i.val % 128, Nat.mod_lt _ (by decide)⟩ ⟨k.val % 128, Nat.mod_lt _ (by decide)⟩)
    (hB : ∀ (i : Fin 256) (c : Fin 2048), (B (ix2 i c) : EReal) = b (groupOf c) ⟨i.val % 128, Nat.mod_lt _ (by decide)⟩)
    (U VN : Fin 1024 → Fin 2048 → EReal) (r : Fin 1024) (c : Fin 2048) :
    yAt U VN S B (ix2 r c) = U r c * gate (w (groupOf c)) (b (groupOf c))
      (fun j => VN ⟨128 * (r.val / 128) + j.val, by have := r.isLt; have := j.isLt; omega⟩ c) ⟨r.val % 128, Nat.mod_lt _ (by decide)⟩ := by
  have hr := r.isLt
  unfold yAt gate
  show U r c * (∑ k : Fin 256, (if k.val / 64 ≤ (r.val % 256) / 64 ∧ k.val / 128 = (r.val % 256) / 128 then
        (S (ix3 (groupOf c) (⟨r.val % 256, Nat.mod_lt _ (by decide)⟩ : Fin 256) k) : EReal) else 0)
      * VN ⟨256 * (r.val / 256) + k.val, _⟩ c + B (ix2 (⟨r.val % 256, Nat.mod_lt _ (by decide)⟩ : Fin 256) c)) = _
  rw [hB, sum_half (r.val % 256 / 128) (by omega) _ (fun k hk => by rw [if_neg (fun h => hk h.2), zero_mul])]
  refine congrArg₂ (fun s t => U r c * (s + t)) (Finset.sum_congr rfl fun j _ => ?_) (congrArg _ (Fin.ext (by show r.val % 256 % 128 = r.val % 128; omega)))
  have hj := j.isLt
  rw [mul_comm]
  refine congrArg₂ (· * ·) (congrArg (VN · c) (Fin.ext (by show 256 * (r.val / 256) + (128 * (r.val % 256 / 128) + j.val) = 128 * (r.val / 128) + j.val; omega))) ?_
  unfold masked
  refine (if_congr (show ((128 * (r.val % 256 / 128) + j.val) / 64 ≤ r.val % 256 / 64 ∧ (128 * (r.val % 256 / 128) + j.val) / 128 = r.val % 256 / 128)
    ↔ j.val / 64 ≤ r.val % 128 / 64 by omega) ?_ rfl)
  rw [hS _ _ _ (by show (128 * (r.val % 256 / 128) + j.val) / 128 = r.val % 256 / 128; omega)]
  exact congrArg₂ (w _) (Fin.ext (by show r.val % 256 % 128 = r.val % 128; omega)) (Fin.ext (by show (128 * (r.val % 256 / 128) + j.val) % 128 = j.val; omega))

/-- The block a grid point computes, when its input block is 1024 tokens of a sequence. -/
theorem block_layer (n : Fin 2) (s : ℕ) (hs : s < 16)
    (hX : ∀ (r k : Fin 1024), (X (ix3 0 r k) : EReal) = A n ⟨1024 * s + r.val, by have := r.isLt; omega⟩ k)
    (hS : ∀ (g : Fin 8) (i k : Fin 256), k.val / 128 = i.val / 128 → (S (ix3 g i k) : EReal) = w g ⟨i.val % 128, Nat.mod_lt _ (by decide)⟩ ⟨k.val % 128, Nat.mod_lt _ (by decide)⟩)
    (hB : ∀ (i : Fin 256) (c : Fin 2048), (B (ix2 i c) : EReal) = b (groupOf c) ⟨i.val % 128, Nat.mod_lt _ (by decide)⟩)
    (r d : Fin 1024) :
    X (ix3 0 r d) + ∑ c, yAt (rowU X G W) (rowL X G W Γ Β) S B (ix2 r c) * Wo (ix2 c d)
      = layerAt A (fun k => G (ix2 0 k)) (fun k c => W (ix2 k c)) (fun c => Γ (ix2 0 c)) (fun c => Β (ix2 0 c)) w b (fun c d => Wo (ix2 c d)) n
          ⟨1024 * s + r.val, by have := r.isLt; omega⟩ d := by
  have hr := r.isLt
  have hrow : ∀ r : Fin 1024, (fun k => (X (ix3 0 r k) : EReal)) = A n ⟨1024 * s + r.val, by have := r.isLt; omega⟩ := fun r => funext fun k => hX r k
  have e0 : (⟨128 * ((1024 * s + r.val) / 128) + (1024 * s + r.val) % 128, by omega⟩ : Fin 16384) = ⟨1024 * s + r.val, by omega⟩ := Fin.ext (by show 128 * ((1024 * s + r.val) / 128) + (1024 * s + r.val) % 128 = 1024 * s + r.val; omega)
  have er : (⟨(1024 * s + r.val) % 128, Nat.mod_lt _ (by decide)⟩ : Fin 128) = ⟨r.val % 128, Nat.mod_lt _ (by decide)⟩ := Fin.ext (by show (1024 * s + r.val) % 128 = r.val % 128; omega)
  unfold layerAt layer
  dsimp only
  rw [e0, er]
  refine congrArg₂ (· + ·) (hX r d) (Finset.sum_congr rfl fun c _ => congrArg (· * _) ?_)
  rw [yAt_eq S B w b hS hB]
  refine congrArg₂ (· * ·) ?_ (congrArg (gate _ _ · _) (funext fun j => ?_))
  · unfold rowU rowN; rw [hrow]
  · have hj := j.isLt
    have ej : (⟨1024 * s + (128 * (r.val / 128) + j.val), by omega⟩ : Fin 16384) = ⟨128 * ((1024 * s + r.val) / 128) + j.val, by omega⟩ := Fin.ext (by show 1024 * s + (128 * (r.val / 128) + j.val) = 128 * ((1024 * s + r.val) / 128) + j.val; omega)
    unfold rowL rowV rowN
    rw [hrow]
    dsimp only
    rw [ej]

end Cert.Sgu

end
-- ==== Proof.Sgu.Host.lean ====
/- What the host hands the kernel: the gains and matrices of the layer, the block-diagonal spatial matrices and the
   bias table, each read at an index from the arguments. -/
module

public import proofs.«01_k».proof.Proof.Sgu.Spec
public import proofs.«01_k».proof.Proof.Gen.KernelIdeal.Value
public import Idealize.ShloMosaic.Lib.StableHlo.ReadAt

@[expose] public section

noncomputable section

namespace Cert.Sgu

open Cert.KernelIdeal Cert.KernelIdeal.Gen Idealize.ShloMosaic Idealize.ShloMosaic.TcCoe Idealize.SL.Sem

variable (m : (ℓ : Loc nD τ sig) → Buf (Elt Ideal) ℓ) (c : Dev nD)

/-- The gain handed to the kernel is the second layer's. -/
theorem host_gain (j : S1x1024.Idx) : (V m c main_v17 : Vec Ideal S1x1024 .f32) j = m ((c : Thread nD τ).loc main_arg1) (ix2 1 (j 1)) := by
  unfold V; after_reads_at

/-- The input projection handed to the kernel. -/
theorem host_in (j : S1024x4096.Idx) : (V m c main_v18 : Vec Ideal S1024x4096 .bf16) j = m ((c : Thread nD τ).loc main_arg2) (ix3 0 (j 0) (j 1)) := by
  unfold V; after_reads_at

/-- The layer norm's gain handed to the kernel. -/
theorem host_lng (j : S1x2048.Idx) : (V m c main_v19 : Vec Ideal S1x2048 .f32) j = m ((c : Thread nD τ).loc main_arg3) (ix2 0 (j 1)) := by
  unfold V; after_reads_at

/-- The layer norm's shift handed to the kernel. -/
theorem host_lnb (j : S1x2048.Idx) : (V m c main_v20 : Vec Ideal S1x2048 .f32) j = m ((c : Thread nD τ).loc main_arg4) (ix2 0 (j 1)) := by
  unfold V; after_reads_at

/-- The output projection handed to the kernel. -/
theorem host_out (j : S2048x1024.Idx) : (V m c main_v21 : Vec Ideal S2048x1024 .bf16) j = m ((c : Thread nD τ).loc main_arg7) (ix3 0 (j 0) (j 1)) := by
  unfold V; after_reads_at

/-- A diagonal block of a spatial matrix is the argument's matrix. -/
theorem host_spatial (g : Fin 8) (i k : Fin 256) (h : k.val / 128 = i.val / 128) : (V m c main_v12 : Vec Ideal S8x256x256 .bf16) (ix3 g i k)
    = m ((c : Thread nD τ).loc main_arg5) (ix4 0 g (⟨i.val % 128, Nat.mod_lt _ (by decide)⟩ : Fin 128) (⟨k.val % 128, Nat.mod_lt _ (by decide)⟩ : Fin 128)) := by
  have hi := i.isLt
  have hk := k.isLt
  have e : ∀ a b a' b' : Fin 128, a.val = a'.val → b.val = b'.val →
      m ((c : Thread nD τ).loc main_arg5) (ix4 0 g a b) = m ((c : Thread nD τ).loc main_arg5) (ix4 0 g a' b') := by
    rintro a b a' b' ha hb
    rw [Fin.ext ha, Fin.ext hb]
  unfold V; after_reads_at
  split_ifs with h1 h2
  · after_reads_at
    rw [dif_pos (by omega)]
    exact e _ _ _ _ (by show i.val = i.val % 128; omega) (by show k.val = k.val % 128; omega)
  · after_reads_at
    rw [dif_neg (by omega)]
    exact e _ _ _ _ (by show i.val - 128 = i.val % 128; omega) (by show k.val - 128 = k.val % 128; omega)
  · exact absurd rfl h2

/-- The bias table repeats the biases every 128 rows. -/
theorem host_bias (i : Fin 256) (k : Fin 2048) : (V m c main_v16 : Vec Ideal S256x2048 .f32) (ix2 i k)
    = m ((c : Thread nD τ).loc main_arg6) (ix3 0 (groupOf k) (⟨i.val % 128, Nat.mod_lt _ (by decide)⟩ : Fin 128)) := by
  have hi := i.isLt
  unfold V; after_reads_at
  have e : ∀ a b : Fin 128, a.val = b.val → m ((c : Thread nD τ).loc main_arg6) (ix3 0 (groupOf k) a) = m ((c : Thread nD τ).loc main_arg6) (ix3 0 (groupOf k) b) := by
    rintro a b h
    rw [Fin.ext h]
  by_cases h1 : i.val < 128
  · rw [dif_pos h1]
    split_ifs
    all_goals exact e _ _ (by show i.val = i.val % 128; omega)
  · rw [dif_neg h1]
    split_ifs
    all_goals exact e _ _ (by show i.val - 128 = i.val % 128; omega)

end Cert.Sgu

end
-- ==== Proof.Sgu.Array.lean ====
/- What the kernel's output array holds at the end: the layer, computed from the arguments. -/
module

public import proofs.«01_k».proof.Proof.Sgu.Block
public import proofs.«01_k».proof.Proof.Sgu.Mix
public import proofs.«01_k».proof.Proof.Sgu.Host
public import Idealize.ShloMosaic.Lib.Pipeline.ValueKit.Geometry

@[expose] public section

noncomputable section

namespace Cert.Sgu

open Cert.KernelIdeal Cert.KernelIdeal.Gen Idealize.ShloMosaic Idealize.ShloMosaic.TcCoe Idealize.SL.Sem

variable (m : (ℓ : Loc nD τ sig) → Buf (Elt Ideal) ℓ) (c : Dev nD)

/-- The layer of the kernel's arguments. -/
def result (y : S2x16384x1024.Idx) : EReal :=
  layerAt (fun n T k => m ((c : Thread nD τ).loc main_arg0) (ix3 n T k)) (fun k => m ((c : Thread nD τ).loc main_arg1) (ix2 1 k))
    (fun k c' => m ((c : Thread nD τ).loc main_arg2) (ix3 0 k c')) (fun c' => m ((c : Thread nD τ).loc main_arg3) (ix2 0 c'))
    (fun c' => m ((c : Thread nD τ).loc main_arg4) (ix2 0 c')) (fun g a b => m ((c : Thread nD τ).loc main_arg5) (ix4 0 g a b))
    (fun g a => m ((c : Thread nD τ).loc main_arg6) (ix3 0 g a)) (fun c' d => m ((c : Thread nD τ).loc main_arg7) (ix3 0 c' d)) (y 0) (y 1) (y 2)

/-- The input's block at a point: the point's 1024 tokens. -/
theorem blk_x (t : Fin cfg0.N) (y : S1x1024x1024.Idx) : iblk m c 0 t y
    = m ((c : Thread nD τ).loc main_arg0) (ix3 (⟨(grid0.coords t 0).val, (grid0.coords t 0).isLt⟩ : Fin 2)
        (⟨1024 * (grid0.coords t 1).val + (y 1).val, by have h : (grid0.coords t 1).val < 16 := (grid0.coords t 1).isLt; have h' : (y 1).val < 1024 := (y 1).isLt; omega⟩ : Fin 16384) (y 2)) := by
  have e : ∀ t : Fin cfg0.N, win0_0.index t = ![(grid0.coords t 0).val, (grid0.coords t 1).val, 0] := by decide +kernel
  blk_ext [iblk, V_main_arg0, e t]

/-- The gain's block. -/
theorem blk_g (t : Fin cfg0.N) (y : S1x1024.Idx) : iblk m c 1 t y = m ((c : Thread nD τ).loc main_arg1) (ix2 1 (y 1)) := by
  have e : ∀ t : Fin cfg0.N, win0_1.index t = ![0, 0] := by decide +kernel
  trans V m c main_v17 y
  · blk_ext [iblk, e t]
  · exact host_gain m c y

/-- The input projection's block. -/
theorem blk_in (t : Fin cfg0.N) (y : S1024x4096.Idx) : iblk m c 2 t y = m ((c : Thread nD τ).loc main_arg2) (ix3 0 (y 0) (y 1)) := by
  have e : ∀ t : Fin cfg0.N, win0_2.index t = ![0, 0] := by decide +kernel
  trans V m c main_v18 y
  · blk_ext [iblk, e t]
  · exact host_in m c y

/-- The layer norm's gain. -/
theorem blk_lng (t : Fin cfg0.N) (y : S1x2048.Idx) : iblk m c 3 t y = m ((c : Thread nD τ).loc main_arg3) (ix2 0 (y 1)) := by
  have e : ∀ t : Fin cfg0.N, win0_3.index t = ![0, 0] := by decide +kernel
  trans V m c main_v19 y
  · blk_ext [iblk, e t]
  · exact host_lng m c y

/-- The layer norm's shift. -/
theorem blk_lnb (t : Fin cfg0.N) (y : S1x2048.Idx) : iblk m c 4 t y = m ((c : Thread nD τ).loc main_arg4) (ix2 0 (y 1)) := by
  have e : ∀ t : Fin cfg0.N, win0_4.index t = ![0, 0] := by decide +kernel
  trans V m c main_v20 y
  · blk_ext [iblk, e t]
  · exact host_lnb m c y

/-- The output projection's block. -/
theorem blk_out (t : Fin cfg0.N) (y : S2048x1024.Idx) : iblk m c 7 t y = m ((c : Thread nD τ).loc main_arg7) (ix3 0 (y 0) (y 1)) := by
  have e : ∀ t : Fin cfg0.N, win0_7.index t = ![0, 0] := by decide +kernel
  trans V m c main_v21 y
  · blk_ext [iblk, e t]
  · exact host_out m c y

/-- The spatial matrices' block, on its diagonal blocks. -/
theorem blk_spatial (t : Fin cfg0.N) (g : Fin 8) (i k : Fin 256) (h : k.val / 128 = i.val / 128) : iblk m c 5 t (ix3 g i k)
    = m ((c : Thread nD τ).loc main_arg5) (ix4 0 g (⟨i.val % 128, Nat.mod_lt _ (by decide)⟩ : Fin 128) (⟨k.val % 128, Nat.mod_lt _ (by decide)⟩ : Fin 128)) := by
  have e : ∀ t : Fin cfg0.N, win0_5.index t = ![0, 0, 0] := by decide +kernel
  trans V m c main_v12 (ix3 g i k)
  · blk_ext [iblk, e t]
  · exact host_spatial m c g i k h

/-- The bias table's block. -/
theorem blk_bias (t : Fin cfg0.N) (i : Fin 256) (k : Fin 2048) : iblk m c 6 t (ix2 i k)
    = m ((c : Thread nD τ).loc main_arg6) (ix3 0 (groupOf k) (⟨i.val % 128, Nat.mod_lt _ (by decide)⟩ : Fin 128)) := by
  have e : ∀ t : Fin cfg0.N, win0_6.index t = ![0, 0] := by decide +kernel
  trans V m c main_v16 (ix2 i k)
  · blk_ext [iblk, e t]
  · exact host_bias m c i k

/-- The output block a point leaves: the layer at the point's tokens. -/
theorem block_eq (t : Fin cfg0.N) (y : S1x1024x1024.Idx) : outsAt0 m c t y
    = result m c (ix3 (⟨(grid0.coords t 0).val, (grid0.coords t 0).isLt⟩ : Fin 2)
        (⟨1024 * (grid0.coords t 1).val + (y 1).val, by have h : (grid0.coords t 1).val < 16 := (grid0.coords t 1).isLt; have h' : (y 1).val < 1024 := (y 1).isLt; omega⟩ : Fin 16384) (y 2)) := by
  obtain ⟨r, d, rfl⟩ : ∃ r d : Fin 1024, y = ix3 (0 : Fin 1) r d := by
    refine ⟨y 1, y 2, funext fun a => ?_⟩
    fin_cases a
    · exact Subsingleton.elim (α := Fin 1) _ _
    · rfl
    · rfl
  unfold outsAt0 out0_A_8
  rw [run_pieces, View.read_writes_junk_eq_canon]
  simp only [loadsOf_eq]
  rw [View.canon_cons_unit_lit']
  · refine (pointOut_apply _ _ _ _ _ _ _ _ _ _ _ _ (ix3 (0 : Fin 1) r d)).trans ?_
    refine (block_layer (iblk m c 0 t) (iblk m c 1 t) (iblk m c 2 t) (iblk m c 3 t) (iblk m c 4 t) (iblk m c 5 t) (iblk m c 6 t) (iblk m c 7 t)
      (fun n T k => m ((c : Thread nD τ).loc main_arg0) (ix3 n T k)) (fun g a b => m ((c : Thread nD τ).loc main_arg5) (ix4 0 g a b))
      (fun g a => m ((c : Thread nD τ).loc main_arg6) (ix3 0 g a)) ⟨(grid0.coords t 0).val, (grid0.coords t 0).isLt⟩ (grid0.coords t 1).val
      (grid0.coords t 1).isLt (fun r k => blk_x m c t (ix3 0 r k)) (fun g i k h => blk_spatial m c t g i k h) (fun i k => blk_bias m c t i k) r d).trans ?_
    have hg : (fun k => (iblk m c 1 t (ix2 0 k) : EReal)) = fun k => m ((c : Thread nD τ).loc main_arg1) (ix2 1 k) := funext fun k => blk_g m c t (ix2 0 k)
    have hw : (fun (k : Fin 1024) (c' : Fin 4096) => (iblk m c 2 t (ix2 k c') : EReal)) = fun k c' => m ((c : Thread nD τ).loc main_arg2) (ix3 0 k c') := funext fun k => funext fun c' => blk_in m c t (ix2 k c')
    have hγ : (fun k => (iblk m c 3 t (ix2 0 k) : EReal)) = fun k => m ((c : Thread nD τ).loc main_arg3) (ix2 0 k) := funext fun k => blk_lng m c t (ix2 0 k)
    have hβ : (fun k => (iblk m c 4 t (ix2 0 k) : EReal)) = fun k => m ((c : Thread nD τ).loc main_arg4) (ix2 0 k) := funext fun k => blk_lnb m c t (ix2 0 k)
    have ho : (fun (k : Fin 2048) (c' : Fin 1024) => (iblk m c 7 t (ix2 k c') : EReal)) = fun k c' => m ((c : Thread nD τ).loc main_arg7) (ix3 0 k c') := funext fun k => funext fun c' => blk_out m c t (ix2 k c')
    unfold result
    rw [hg, hw, hγ, hβ, ho]
    rfl
  all_goals decide

/-- The kernel's output array at the end. -/
theorem array_eq : (dats m 0 c).arrAt 8 cfg0.N = result m c := by
  have e : ∀ t : Fin cfg0.N, win0_8.index t = ![(grid0.coords t 0).val, (grid0.coords t 1).val, 0] := by decide +kernel
  refine (dats m 0 c).arrAt_eq_of_covers 8 _ (by decide +kernel) fun t hf y => ?_
  blk_simp
  rw [after0_8]
  refine (block_eq m c t y).trans ?_
  blk_ext [e t]

end Cert.Sgu

end
-- ==== Proof.Sgu.Ref.lean ====
/- What the reference computes, read at an index one stage at a time: the layer of `Spec.lean`. -/
module

public import proofs.«01_k».proof.Proof.Sgu.Spec
public import proofs.«01_k».proof.Proof.Gen.ReferenceIdeal.Read

@[expose] public section

noncomputable section

namespace Cert.Sgu.Ref

open Cert.ReferenceIdeal Cert.ReferenceIdeal.Read Idealize.ShloMosaic Idealize.ShloMosaic.TcCoe Idealize.SL.Sem

variable (x0 : (⟨S2x16384x1024, .f32⟩ : BufTy).Contents (Elt Ideal)) (x1 : (⟨S2x1024, .f32⟩ : BufTy).Contents (Elt Ideal)) (x2 : (⟨S1x1024x4096, .f32⟩ : BufTy).Contents (Elt Ideal)) (x3 x4 : (⟨S1x2048, .f32⟩ : BufTy).Contents (Elt Ideal)) (x5 : (⟨S1x8x128x128, .f32⟩ : BufTy).Contents (Elt Ideal)) (x6 : (⟨S1x8x128, .f32⟩ : BufTy).Contents (Elt Ideal)) (x7 : (⟨S1x2048x1024, .f32⟩ : BufTy).Contents (Elt Ideal))

/-- The normalised row of token `T` of sequence `n`. -/
def rowN (n : Fin 2) (T : Fin 16384) : Fin 1024 → EReal := rms (fun k => x0 (ix3 n T k)) (fun k => x1 (ix2 1 k))

/-- The reference's normalised rows. -/
theorem norm_apply (i : S2x16384x1024.Idx) : val_main_v14 (F := Ideal) x0 x1 i = rowN x0 x1 (i 0) (i 1) (i 2) := by
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 rowN rms
  pointwise

/-- The projection of token `T` of sequence `n`. -/
def rowP (n : Fin 2) (T : Fin 16384) (c : Fin 4096) : EReal := proj (rowN x0 x1 n T) (fun k c => x2 (ix3 0 k c)) c

/-- The reference's projection. -/
theorem proj_apply (i : S2x16384x4096.Idx) : val_main_v34 (F := Ideal) x0 x1 x2 i = rowP x0 x1 x2 (i 0) (i 1) (i 2) := by
  have h : ∀ k, val_main_v14 (F := Ideal) x0 x1 (ix3 (i 0) (i 1) k) = rowN x0 x1 (i 0) (i 1) k := fun k => norm_apply x0 x1 _
  unfold rowP proj gelu
  unfold val_main_v34 val_main_v33 val_main_v32 val_main_v31 val_main_v30 val_main_v29 val_main_v28 val_main_v27 val_main_v26 val_main_v25 val_main_v24 val_main_v23 val_main_v22 val_main_v21 val_main_v15 val_main_cst_2 val_main_cst_3 val_main_cst_4 val_main_cst_5
  generalize val_main_v14 (F := Ideal) x0 x1 = hn at h ⊢
  pointwise
  simp only [h]

/-- The gate half of token `T`. -/
def rowV (n : Fin 2) (T : Fin 16384) (c : Fin 2048) : EReal := rowP x0 x1 x2 n T (vCol c)

/-- The reference's means. -/
theorem mean_apply (i : S2x16384x1.Idx) : val_main_v40 (F := Ideal) x0 x1 x2 i = mean (rowV x0 x1 x2 (i 0) (i 1)) := by
  have h : ∀ k, val_main_v34 (F := Ideal) x0 x1 x2 (ix3 (i 0) (i 1) k) = rowP x0 x1 x2 (i 0) (i 1) k := fun k => proj_apply x0 x1 x2 _
  unfold val_main_v40 val_main_v39 val_main_v38 val_main_v37 val_main_cst_6 val_main_cst_7 val_main_v36 mean rowV vCol
  generalize val_main_v34 (F := Ideal) x0 x1 x2 = z at h ⊢
  pointwise
  simp only [h]

/-- The gate half of token `T` under its layer norm. -/
def rowL (n : Fin 2) (T : Fin 16384) : Fin 2048 → EReal := layerNorm (rowV x0 x1 x2 n T) (fun c => x3 (ix2 0 c)) (fun c => x4 (ix2 0 c))

/-- The reference's layer norm. -/
theorem layerNorm_apply (i : S2x16384x2048.Idx) : val_main_v60 (F := Ideal) x0 x1 x2 x3 x4 i = rowL x0 x1 x2 x3 x4 (i 0) (i 1) (i 2) := by
  have h : ∀ k, val_main_v34 (F := Ideal) x0 x1 x2 (ix3 (i 0) (i 1) k) = rowP x0 x1 x2 (i 0) (i 1) k := fun k => proj_apply x0 x1 x2 _
  have hm : val_main_v40 (F := Ideal) x0 x1 x2 (ix3 (i 0) (i 1) 0) = mean (rowV x0 x1 x2 (i 0) (i 1)) := mean_apply x0 x1 x2 _
  unfold rowL layerNorm
  rw [mean.eq_def (fun c => _ * _)]
  unfold val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v36 val_main_v16 val_main_v17 val_main_cst_8 val_main_cst_9 val_main_cst_10
  generalize val_main_v34 (F := Ideal) x0 x1 x2 = z at h ⊢
  generalize val_main_v40 (F := Ideal) x0 x1 x2 = mu at hm ⊢
  pointwise
  simp only [h, hm]
  rfl

/-! ## The mask -/

/-- The chunk of column `j`. -/
theorem chunkCol (j : Fin 128) : val_main_v64 (F := Ideal) (ix2 0 j) = BitVec.ofNat 32 (j.val / 64) := by
  unfold val_main_v64 val_main_call0_v13 val_main_call0_v12 val_main_call0_c_0 val_main_call0_v11 val_main_call0_v10 val_main_call0_v9 val_main_call0_c val_main_call0_v8 val_main_call0_v7 val_main_call0_v6 val_main_call0_v5 val_main_call0_v4 val_main_call0_v3 val_main_call0_v2 val_main_call0_v1 val_main_call0_v0 val_main_v63 val_main_v62 val_main_c
  pointwise
  revert j
  decide +kernel

/-- The chunk of row `i`. -/
theorem chunkRow (i : Fin 128) : val_main_v66 (F := Ideal) (ix2 i 0) = BitVec.ofNat 32 (i.val / 64) := by
  unfold val_main_v66 val_main_call1_v13 val_main_call1_v12 val_main_call1_c_0 val_main_call1_v11 val_main_call1_v10 val_main_call1_v9 val_main_call1_c val_main_call1_v8 val_main_call1_v7 val_main_call1_v6 val_main_call1_v5 val_main_call1_v4 val_main_call1_v3 val_main_call1_v2 val_main_call1_v1 val_main_call1_v0 val_main_v65 val_main_v62
  pointwise
  revert i
  decide +kernel

/-- The mask keeps column `j` of row `i` where its chunk of 64 is not later. -/
theorem mask_apply (i j : Fin 128) : val_main_v69 (F := Ideal) (ix2 i j) = BitVec.ofBool (decide (j.val / 64 ≤ i.val / 64)) := by
  have hc := chunkCol j
  have hr := chunkRow i
  unfold val_main_v69 val_main_v68 val_main_v67
  generalize val_main_v64 (F := Ideal) = c at hc ⊢
  generalize val_main_v66 (F := Ideal) = r at hr ⊢
  pointwise
  rw [hc, hr]
  clear hc hr c r
  revert i j
  decide +kernel

/-- The reference's masked spatial matrices. -/
theorem masked_apply (i : S8x128x128.Idx) : val_main_v72 (F := Ideal) x5 i = masked (fun a b => x5 (ix4 0 (i 0) a b)) (i 1) (i 2) := by
  have h : val_main_v69 (F := Ideal) (ix2 (i 1) (i 2)) = BitVec.ofBool (decide ((i 2).val / 64 ≤ (i 1).val / 64)) := mask_apply _ _
  unfold val_main_v72 val_main_v71 val_main_cst_12 val_main_v18 val_main_call2_v0 val_main_v70
  generalize val_main_v69 (F := Ideal) = k at h ⊢
  pointwise
  rw [h]; unfold Scalar.select masked
  by_cases p : (i 2).val / 64 ≤ (i 1).val / 64 <;> simp [p]

/-! ## The gated rows and the result -/

/-- The reference's gated rows. -/
theorem gated_apply (i : S2x16384x2048.Idx) : val_main_v80 (F := Ideal) x0 x1 x2 x3 x4 x5 x6 i
    = rowP x0 x1 x2 (i 0) (i 1) (uCol (i 2)) * gate (fun a b => x5 (ix4 0 (groupOf (i 2)) a b)) (fun a => x6 (ix3 0 (groupOf (i 2)) a))
        (fun j => rowL x0 x1 x2 x3 x4 (i 0) ⟨128 * ((i 1).val / 128) + j.val, by have : (i 1).val < 16384 := (i 1).isLt; have := j.isLt; omega⟩ (i 2))
        ⟨(i 1).val % 128, Nat.mod_lt _ (by decide)⟩ := by
  have hi : (i 1).val < 16384 := (i 1).isLt
  have h : ∀ k, val_main_v34 (F := Ideal) x0 x1 x2 (ix3 (i 0) (i 1) k) = rowP x0 x1 x2 (i 0) (i 1) k := fun k => proj_apply x0 x1 x2 _
  have hv : ∀ T c, val_main_v60 (F := Ideal) x0 x1 x2 x3 x4 (ix3 (i 0) T c) = rowL x0 x1 x2 x3 x4 (i 0) T c := fun T c => layerNorm_apply x0 x1 x2 x3 x4 _
  have hw : ∀ g a b, val_main_v72 (F := Ideal) x5 (ix3 g a b) = masked (fun a b => x5 (ix4 0 g a b)) a b := fun g a b => masked_apply x5 _
  unfold val_main_v80 val_main_v79 val_main_v78 val_main_v77 val_main_v76 val_main_v75 val_main_v74 val_main_v73 val_main_v61 val_main_v19 val_main_v35
  generalize val_main_v60 (F := Ideal) x0 x1 x2 x3 x4 = vn at hv ⊢
  generalize val_main_v72 (F := Ideal) x5 = w at hw ⊢
  generalize val_main_v34 (F := Ideal) x0 x1 x2 = z at h ⊢
  pointwise
  unfold gate uCol groupOf
  have e : ∀ T T' : Fin 16384, T.val = T'.val → rowL x0 x1 x2 x3 x4 (i 0) T (i 2) = rowL x0 x1 x2 x3 x4 (i 0) T' (i 2) := by
    rintro T T' h
    rw [Fin.ext h]
  refine congrArg₂ (· * ·) (h _) (congrArg₂ (· + ·) (Finset.sum_congr rfl fun j _ => congrArg₂ (· * ·) ((hv _ _).trans (e _ _ ?_)) (hw _ _ _)) rfl)
  show (i 1).val / 128 * 128 + j.val = 128 * ((i 1).val / 128) + j.val
  omega

/-- The reference's result at an index. -/
theorem result_apply (i : S2x16384x1024.Idx) : val_main_v82 (F := Ideal) x0 x1 x2 x3 x4 x5 x6 x7 i
    = layerAt (fun n T k => x0 (ix3 n T k)) (fun k => x1 (ix2 1 k)) (fun k c => x2 (ix3 0 k c)) (fun c => x3 (ix2 0 c)) (fun c => x4 (ix2 0 c))
        (fun g a b => x5 (ix4 0 g a b)) (fun g a => x6 (ix3 0 g a)) (fun c d => x7 (ix3 0 c d)) (i 0) (i 1) (i 2) := by
  have hi : (i 1).val < 16384 := (i 1).isLt
  have h : ∀ c, val_main_v80 (F := Ideal) x0 x1 x2 x3 x4 x5 x6 (ix3 (i 0) (i 1) c) = _ := fun c => gated_apply x0 x1 x2 x3 x4 x5 x6 _
  unfold val_main_v82 val_main_v81 val_main_v20
  generalize val_main_v80 (F := Ideal) x0 x1 x2 x3 x4 x5 x6 = y at h ⊢
  pointwise
  simp only [h]
  have e0 : (⟨128 * ((i 1).val / 128) + (i 1).val % 128, by omega⟩ : Fin 16384) = i 1 := Fin.ext (by show 128 * ((i 1).val / 128) + (i 1).val % 128 = (i 1).val; omega)
  unfold layerAt layer
  dsimp only
  rw [e0]
  refine congrArg₂ (· + ·) ?_ rfl
  pointwise

end Cert.Sgu.Ref

end
-- ==== Proof.Ffn.Block.lean ====
/- What one grid point of the feed-forward kernel computes, as vector functions of the blocks it loads: the normalised
   rows, the up projection in blocks of 256 columns laid out as slabs of 128 lanes behind the last eight rows of the
   tile before, the three-tap convolution of the even and of the odd rows, the gated rows and the down projection. -/
module

public import proofs.«01_k».proof.Proof.Gen.Kernel2Ideal
public import Idealize.ShloMosaic.Lib.Pipeline.Frame

@[expose] public section

noncomputable section

namespace Cert.Ffn

open Cert.Kernel2Ideal Cert.Kernel2Ideal.Gen Idealize.ShloMosaic Idealize.SL.Sem

variable {F : FTy → Type} [FloatOps F]

/-- What a buffer of shape `S` gives under each rectangle that is loaded from it. -/
abbrev Loads (F : FTy → Type) (S : Shape) (e : EltTy) := (r : Rect S) → r.shape.Idx → Elt F e

/-! ## The rectangles -/

/-- 32 rows of the input block, from row `32 n`. -/
abbrev xRect (n : ℕ) (h : n < 16) : Rect S1x512x1024 :=
  Rect.unit ![0, 32 * n, 0] S1x32x1024.size fun a => match a with
    | ⟨0, _⟩ => by show 0 + 1 ≤ 1; omega
    | ⟨1, _⟩ => by show 32 * n + 32 ≤ 512; omega
    | ⟨2, _⟩ => by show 0 + 1024 ≤ 1024; omega

/-- 32 rows of the normalised buffer, from row `32 n`. -/
abbrev hRect (n : ℕ) (h : n < 16) : Rect S512x1024 :=
  Rect.unit ![32 * n, 0] S32x1024.size fun a => match a with
    | ⟨0, _⟩ => by show 32 * n + 32 ≤ 512; omega
    | ⟨1, _⟩ => by show 0 + 1024 ≤ 1024; omega

/-- 256 columns of the up projection's matrix: block `p / 2` of half `p % 2`. -/
abbrev wRect (p : ℕ) (h : p < 22) : Rect S1x1024x5632 :=
  Rect.unit ![0, 0, 2816 * (p % 2) + 256 * (p / 2)] S1x1024x256.size fun a => match a with
    | ⟨0, _⟩ => by show 0 + 1 ≤ 1; omega
    | ⟨1, _⟩ => by show 0 + 1024 ≤ 1024; omega
    | ⟨2, _⟩ => by show 2816 * (p % 2) + 256 * (p / 2) + 256 ≤ 5632; omega

/-- The slab of the carry that step `q` reads and writes: lanes `128 (q % 2)` of block `q / 4` of half `q / 2 % 2`. -/
abbrev slab (q : ℕ) : ℕ := 22 * (q / 2 % 2) + 2 * (q / 4) + q % 2

/-- The eight rows of the carry of step `q`. -/
abbrev kRect (q : ℕ) (h : q < 44) : Rect S44x8x128 :=
  Rect.unit ![slab q, 0, 0] S1x8x128.size fun a => match a with
    | ⟨0, _⟩ => by show 22 * (q / 2 % 2) + 2 * (q / 4) + q % 2 + 1 ≤ 44; omega
    | ⟨1, _⟩ => by show 0 + 8 ≤ 8; omega
    | ⟨2, _⟩ => by show 0 + 128 ≤ 128; omega

/-- The first eight rows of the slab that step `q` fills. -/
abbrev z0Rect (q : ℕ) (h : q < 44) : Rect S2x4x520x128 :=
  Rect.unit ![q / 4 % 2, q % 4, 0, 0] S1x1x8x128.size fun a => match a with
    | ⟨0, _⟩ => by show q / 4 % 2 + 1 ≤ 2; omega
    | ⟨1, _⟩ => by show q % 4 + 1 ≤ 4; omega
    | ⟨2, _⟩ => by show 0 + 8 ≤ 520; omega
    | ⟨3, _⟩ => by show 0 + 128 ≤ 128; omega

/-- The other 512 rows of the slab that step `q` fills. -/
abbrev z1Rect (q : ℕ) (h : q < 44) : Rect S2x4x520x128 :=
  Rect.unit ![q / 4 % 2, q % 4, 8, 0] S1x1x512x128.size fun a => match a with
    | ⟨0, _⟩ => by show q / 4 % 2 + 1 ≤ 2; omega
    | ⟨1, _⟩ => by show q % 4 + 1 ≤ 4; omega
    | ⟨2, _⟩ => by show 8 + 512 ≤ 520; omega
    | ⟨3, _⟩ => by show 0 + 128 ≤ 128; omega

/-- Every other row of the slab that step `q` filled, 64 of them from row `o`. -/
abbrev tRect (q o : ℕ) (h : q < 44) (ho : o < 394) : LoadRect S2x4x520x128 :=
  ⟨![q / 4 % 2, q % 4, o, 0], S1x1x64x128.size, ![1, 1, 2, 1], fun a => match a with
    | ⟨0, _⟩ => Or.inr (by show q / 4 % 2 + 1 * (1 - 1) < 2; omega)
    | ⟨1, _⟩ => Or.inr (by show q % 4 + 1 * (1 - 1) < 4; omega)
    | ⟨2, _⟩ => Or.inr (by show o + 2 * (64 - 1) < 520; omega)
    | ⟨3, _⟩ => Or.inr (by show 0 + 1 * (128 - 1) < 128; omega)⟩

/-- The first column of the lanes of step `q`, among the columns of the up projection. -/
abbrev col (q : ℕ) : ℕ := 128 * slab q

/-- The bias of the lanes of step `q`. -/
abbrev bRect (q : ℕ) (h : q < 44) : Rect S1x1x5632 :=
  Rect.unit ![0, 0, col q] S1x1x128.size fun a => match a with
    | ⟨0, _⟩ => by show 0 + 1 ≤ 1; omega
    | ⟨1, _⟩ => by show 0 + 1 ≤ 1; omega
    | ⟨2, _⟩ => by show 128 * (22 * (q / 2 % 2) + 2 * (q / 4) + q % 2) + 128 ≤ 5632; omega

/-- Tap `k` of the lanes of step `q`. -/
abbrev cRect (q k : ℕ) (h : q < 44) (hk : k < 3) : Rect S1x3x5632 :=
  Rect.unit ![0, k, col q] S1x1x128.size fun a => match a with
    | ⟨0, _⟩ => by show 0 + 1 ≤ 1; omega
    | ⟨1, _⟩ => by show k + 1 ≤ 3; omega
    | ⟨2, _⟩ => by show 128 * (22 * (q / 2 % 2) + 2 * (q / 4) + q % 2) + 128 ≤ 5632; omega

/-- The square of the gated buffer that step `p` fills: rows of parity `p / 8 % 2`, lanes `p / 4 % 2` of block `p / 16`. -/
abbrev aRect (p : ℕ) (h : p < 176) : Rect S512x2816 :=
  Rect.unit ![256 * (p / 8 % 2) + 64 * (p % 4), 256 * (p / 16) + 128 * (p / 4 % 2)] S64x128.size fun a => match a with
    | ⟨0, _⟩ => by show 256 * (p / 8 % 2) + 64 * (p % 4) + 64 ≤ 512; omega
    | ⟨1, _⟩ => by show 256 * (p / 16) + 128 * (p / 4 % 2) + 128 ≤ 2816; omega

/-- The rows of parity `p % 2` of slab `p / 2` of the down projection. -/
abbrev yRect (p : ℕ) (h : p < 16) : Rect S8x512x128 :=
  ⟨⟨![p / 2, p % 2, 0], S1x256x128.size, ![1, 2, 1], fun a => match a with
    | ⟨0, _⟩ => Or.inr (by show p / 2 + 1 * (1 - 1) < 8; omega)
    | ⟨1, _⟩ => Or.inr (by show p % 2 + 2 * (256 - 1) < 512; omega)
    | ⟨2, _⟩ => Or.inr (by show 0 + 1 * (128 - 1) < 128; omega)⟩, fun a => match a with
    | ⟨0, _⟩ => by show 0 < 1; omega
    | ⟨1, _⟩ => by show 0 < 2; omega
    | ⟨2, _⟩ => by show 0 < 1; omega⟩

/-- 32 rows of slab `l` of the down projection, from row `32 n`. -/
abbrev sRect (l n : ℕ) (hl : l < 8) (h : n < 16) : Rect S8x512x128 :=
  Rect.unit ![l, 32 * n, 0] S1x32x128.size fun a => match a with
    | ⟨0, _⟩ => by show l + 1 ≤ 8; omega
    | ⟨1, _⟩ => by show 32 * n + 32 ≤ 512; omega
    | ⟨2, _⟩ => by show 0 + 128 ≤ 128; omega

/-! ## The normalised rows and the slabs -/

/-- The RMS norm of 32 rows, before its gain. -/
def normRows (x : FVec F S32x1024 .f32) (g : FVec F S1x1024 .f32) : FVec F S32x1024 .f32 :=
  let ss : FVec F S32x1 .f32 := shapeCast S32x1 (multiReduction .add [1] S32 (mulf x x) 0x00000000#32 reduces_S32x1024_S32 (.inl rfl) rfl) shapeCasts_S32_S32x1
  let r : FVec F S32x1 .f32 := rsqrt (addf (divf ss (broadcast S32x1 (Scalar.ofBits .f32 0x44800000#32))) (broadcast S32x1 (Scalar.ofBits .f32 0x358637BD#32)))
  mulf (mulf x (broadcastTo S32x1024 r broadcasts_S32x1_S32x1024)) (broadcastTo S32x1024 g broadcasts_S1x1024_S32x1024)

/-- The RMS norm of 32 rows of the input block, with its gain. -/
def normStrip (x : Vec F S1x32x1024 .f32) (g : Vec F S1x1x1024 .f32) : FVec F S32x1024 .bf16 :=
  shapeCast S32x1024 (truncf .bf16 (normRows (shapeCast S32x1024 x shapeCasts_S1x32x1024_S32x1024) (shapeCast S1x1024 g shapeCasts_S1x1x1024_S1x1024)) bitsLt_bf16_f32 : FVec F S32x1024 .bf16) shapeCasts_S32x1024_S32x1024

/-- The first `n` stores into the normalised buffer, the last first. -/
def hPieces (lx : Loads F S1x512x1024 .f32) (g : Vec F S1x1x1024 .f32) : (n : ℕ) → n ≤ 16 → List (View.Piece (Elt F) S512x1024 .bf16)
  | 0, _ => []
  | n + 1, h => ⟨hRect n h, normStrip (lx (xRect n h)) g⟩ :: hPieces lx g n (Nat.le_of_succ_le h)

/-- A product of the normalised rows with 256 columns of the up projection's matrix. -/
def zBlk (hn : Vec F S512x1024 .bf16) (w : Vec F S1x1024x256 .bf16) : FVec F S512x256 .f32 :=
  matmul dot_S512x1024_S1024x256_S512x256_1_0_0_1_n_n none hn (shapeCast S1024x256 w shapeCasts_S1x1024x256_S1024x256) (constant S512x256 .f32 0x00000000#32)

/-- 128 of 256 lanes are a slice. -/
theorem sliceLanes (l : ℕ) (hl : l < 2) : S512x256.Slices ![0, 128 * l] S512x128 :=
  ⟨rfl, fun a => match a with
    | ⟨0, _⟩ => by show 0 + 512 ≤ 512; omega
    | ⟨1, _⟩ => by show 128 * l + 128 ≤ 256; omega⟩

/-- The 128 columns that step `q` computes. -/
def zOf (hn : Vec F S512x1024 .bf16) (lw : Loads F S1x1024x5632 .bf16) (q : ℕ) (h : q < 44) : FVec F S512x128 .f32 :=
  extractStridedSlice S512x128 ![0, 128 * (q % 2)] (zBlk hn (lw (wRect (q / 2) (by omega)))) (sliceLanes (q % 2) (by omega))

/-- The last eight rows of a slab, as the carry holds them. -/
def tailOf (z : FVec F S512x128 .f32) : FVec F S1x8x128 .f32 :=
  shapeCast S1x8x128 (extractStridedSlice S8x128 ![504, 0] z slices_S512x128_o504_0_S8x128) shapeCasts_S8x128_S1x8x128

/-- The first `n` stores into the carry, the last first, on top of the stores `L`. -/
def kPieces (z : (q : ℕ) → q < 44 → FVec F S512x128 .f32) (L : List (View.Piece (Elt F) S44x8x128 .f32)) : (n : ℕ) → n ≤ 44 → List (View.Piece (Elt F) S44x8x128 .f32)
  | 0, _ => L
  | n + 1, h => ⟨kRect n h, tailOf (z n h)⟩ :: kPieces z L n (Nat.le_of_succ_le h)

/-- The first `n` pairs of stores into the slabs, the last first: the eight carried rows, then the slab's own rows. -/
def zPieces (z : (q : ℕ) → q < 44 → FVec F S512x128 .f32) (k : (q : ℕ) → q < 44 → Vec F S1x8x128 .f32) : (n : ℕ) → n ≤ 44 → List (View.Piece (Elt F) S2x4x520x128 .f32)
  | 0, _ => []
  | n + 1, h => ⟨z1Rect n h, shapeCast S1x1x512x128 (z n h) shapeCasts_S512x128_S1x1x512x128⟩
      :: ⟨z0Rect n h, shapeCast S1x1x8x128 (shapeCast S8x128 (k n h) shapeCasts_S1x8x128_S8x128) shapeCasts_S8x128_S1x1x8x128⟩
      :: zPieces z k n (Nat.le_of_succ_le h)

/-! ## The convolution and the gated rows -/

/-- One tap: 64 rows of a slab under a row of weights. -/
def tap (z : Vec F S1x1x64x128 .f32) (w : Vec F S1x1x128 .f32) : FVec F S64x128 .f32 :=
  mulf (shapeCast S64x128 z shapeCasts_S1x1x64x128_S64x128) (broadcastTo S64x128 (shapeCast S1x128 w shapeCasts_S1x1x128_S1x128) broadcasts_S1x128_S64x128)

/-- The convolution of 64 rows: the bias and three taps. -/
def convBlk (b : Vec F S1x1x128 .f32) (z0 : Vec F S1x1x64x128 .f32) (w0 : Vec F S1x1x128 .f32) (z1 : Vec F S1x1x64x128 .f32) (w1 : Vec F S1x1x128 .f32)
    (z2 : Vec F S1x1x64x128 .f32) (w2 : Vec F S1x1x128 .f32) : FVec F S64x128 .f32 :=
  addf (addf (addf (broadcastTo S64x128 (shapeCast S1x128 b shapeCasts_S1x1x128_S1x128) broadcasts_S1x128_S64x128) (tap z0 w0)) (tap z1 w1)) (tap z2 w2)

/-- GELU of one convolution times the other. -/
def gateBlk (u v : FVec F S64x128 .f32) : FVec F S64x128 .bf16 :=
  let t : FVec F S64x128 .f32 := tanh (mulf (broadcast S64x128 (Scalar.ofBits .f32 0x3F4C422A#32)) (addf u (mulf (broadcast S64x128 (Scalar.ofBits .f32 0x3D372713#32)) (mulf (mulf u u) u))))
  shapeCast S64x128 (truncf .bf16 (mulf (mulf (mulf (broadcast S64x128 (Scalar.ofBits .f32 0x3F000000#32)) u) (addf (broadcast S64x128 (Scalar.ofBits .f32 0x3F800000#32)) t)) v) bitsLt_bf16_f32 : FVec F S64x128 .bf16) shapeCasts_S64x128_S64x128

/-- How many slab steps are done when the gated rows of block `j` are computed: its own four and the next block's. -/
def zCount (j : ℕ) : ℕ := 4 * (j + 2 - (j + 2 - 11))

/-- At most 44 steps. -/
theorem zCount_le (j : ℕ) : zCount j ≤ 44 := by unfold zCount; omega

/-- The convolution that step `p` of the gated rows takes from half `e`. -/
def convOf (lz : ℕ → (r : LoadRect S2x4x520x128) → r.shape.Idx → Elt F .f32) (lb : Loads F S1x1x5632 .f32) (lc : Loads F S1x3x5632 .f32) (e p : ℕ) (he : e < 2) (h : p < 176) : FVec F S64x128 .f32 :=
  convBlk (lb (bRect (4 * (p / 16) + 2 * e + p / 4 % 2) (by omega)))
    (lz (p / 16) (tRect (4 * (p / 16) + 2 * e + p / 4 % 2) (6 + p / 8 % 2 + 128 * (p % 4)) (by omega) (by omega)))
    (lc (cRect (4 * (p / 16) + 2 * e + p / 4 % 2) 0 (by omega) (by omega)))
    (lz (p / 16) (tRect (4 * (p / 16) + 2 * e + p / 4 % 2) (7 + p / 8 % 2 + 128 * (p % 4)) (by omega) (by omega)))
    (lc (cRect (4 * (p / 16) + 2 * e + p / 4 % 2) 1 (by omega) (by omega)))
    (lz (p / 16) (tRect (4 * (p / 16) + 2 * e + p / 4 % 2) (8 + p / 8 % 2 + 128 * (p % 4)) (by omega) (by omega)))
    (lc (cRect (4 * (p / 16) + 2 * e + p / 4 % 2) 2 (by omega) (by omega)))

/-- The first `n` stores into the gated buffer, the last first. -/
def aPieces (lz : ℕ → (r : LoadRect S2x4x520x128) → r.shape.Idx → Elt F .f32) (lb : Loads F S1x1x5632 .f32) (lc : Loads F S1x3x5632 .f32) : (n : ℕ) → n ≤ 176 → List (View.Piece (Elt F) S512x2816 .bf16)
  | 0, _ => []
  | n + 1, h => ⟨aRect n h, gateBlk (convOf lz lb lc 0 n (by omega) h) (convOf lz lb lc 1 n (by omega) h)⟩ :: aPieces lz lb lc n (Nat.le_of_succ_le h)

/-! ## The down projection and the output strips -/

/-- The gated rows through the down projection. -/
def ypBlk (a : Vec F S512x2816 .bf16) (w : Vec F S1x2816x1024 .bf16) : FVec F S512x1024 .f32 :=
  matmul dot_S512x2816_S2816x1024_S512x1024_1_0_0_1_n_n none a (shapeCast S2816x1024 w shapeCasts_S1x2816x1024_S2816x1024) (constant S512x1024 .f32 0x00000000#32)

/-- 256 rows and 128 lanes of the down projection are a slice. -/
theorem sliceQuarter (p : ℕ) (h : p < 16) : S512x1024.Slices ![256 * (p % 2), 128 * (p / 2)] S256x128 :=
  ⟨rfl, fun a => match a with
    | ⟨0, _⟩ => by show 256 * (p % 2) + 256 ≤ 512; omega
    | ⟨1, _⟩ => by show 128 * (p / 2) + 128 ≤ 1024; omega⟩

/-- The first `n` stores into the slabs of the down projection, the last first. -/
def yPieces (yp : FVec F S512x1024 .f32) : (n : ℕ) → n ≤ 16 → List (View.Piece (Elt F) S8x512x128 .f32)
  | 0, _ => []
  | n + 1, h => ⟨yRect n h, shapeCast S1x256x128 (extractStridedSlice S256x128 ![256 * (n % 2), 128 * (n / 2)] yp (sliceQuarter n h)) shapeCasts_S256x128_S1x256x128⟩
      :: yPieces yp n (Nat.le_of_succ_le h)

/-- 32 rows of the sum of the input block and the down projection. -/
def sumStrip (x : Vec F S1x32x1024 .f32) (y : (l : ℕ) → l < 8 → Vec F S1x32x128 .f32) : FVec F S32x1024 .f32 :=
  addf (shapeCast S32x1024 x shapeCasts_S1x32x1024_S32x1024)
    (concatenate S32x1024 1
      [⟨S32x128, shapeCast S32x128 (y 0 (by omega)) shapeCasts_S1x32x128_S32x128⟩, ⟨S32x128, shapeCast S32x128 (y 1 (by omega)) shapeCasts_S1x32x128_S32x128⟩,
       ⟨S32x128, shapeCast S32x128 (y 2 (by omega)) shapeCasts_S1x32x128_S32x128⟩, ⟨S32x128, shapeCast S32x128 (y 3 (by omega)) shapeCasts_S1x32x128_S32x128⟩,
       ⟨S32x128, shapeCast S32x128 (y 4 (by omega)) shapeCasts_S1x32x128_S32x128⟩, ⟨S32x128, shapeCast S32x128 (y 5 (by omega)) shapeCasts_S1x32x128_S32x128⟩,
       ⟨S32x128, shapeCast S32x128 (y 6 (by omega)) shapeCasts_S1x32x128_S32x128⟩, ⟨S32x128, shapeCast S32x128 (y 7 (by omega)) shapeCasts_S1x32x128_S32x128⟩]
      concatenates_S32x128_S32x128_S32x128_S32x128_S32x128_S32x128_S32x128_S32x128_S32x1024_d1)

/-- 32 rows of the output block: the sum under the final norm. -/
def outStrip (x : Vec F S1x32x1024 .f32) (y : (l : ℕ) → l < 8 → Vec F S1x32x128 .f32) (fg : Vec F S1x1024 .f32) : FVec F S1x32x1024 .f32 :=
  shapeCast S1x32x1024 (normRows (sumStrip x y) (shapeCast S1x1024 fg shapeCasts_S1x1024_S1x1024)) shapeCasts_S32x1024_S1x32x1024

/-- The first `n` stores into the output block, the last first. -/
def oPieces (lx : Loads F S1x512x1024 .f32) (ly : Loads F S8x512x128 .f32) (fg : Vec F S1x1024 .f32) : (n : ℕ) → n ≤ 16 → List (View.Piece (Elt F) S1x512x1024 .f32)
  | 0, _ => []
  | n + 1, h => ⟨xRect n h, outStrip (lx (xRect n h)) (fun l hl => ly (sRect l n hl h)) fg⟩ :: oPieces lx ly fg n (Nat.le_of_succ_le h)

/-! ## The whole point -/

section Point
variable {sg : RefSig} (c10 : View sg .tc .vmem S512x1024 .bf16) (c11 : View sg .tc .vmem S2x4x520x128 .f32) (c13 : View sg .tc .vmem S512x2816 .bf16) (c14 : View sg .tc .vmem S8x512x128 .f32)
  (lx : Loads F S1x512x1024 .f32) (lg : Loads F S1x1x1024 .f32) (lw : Loads F S1x1024x5632 .bf16) (lc : Loads F S1x3x5632 .f32) (lb : Loads F S1x1x5632 .f32)
  (ld : Loads F S1x2816x1024 .bf16) (lf : Loads F S1x1024 .f32)

/-- The normalised rows, read back. -/
def hnOf : Vec F S512x1024 .bf16 :=
  c10.readCov (hPieces lx (lg (Rect.unit ![0, 0, 0] S1x1x1024.size inb_S1x1x1024_S1x1x1024_0_0_0)) 16 le_rfl) (Rect.unit ![0, 0] S512x1024.size inb_S512x1024_S512x1024_0_0).toLoadRect

/-- The slabs, read back when the gated rows of block `j` are computed. -/
def zLoads (hn : Vec F S512x1024 .bf16) (k : (q : ℕ) → q < 44 → Vec F S1x8x128 .f32) (j : ℕ) (r : LoadRect S2x4x520x128) : r.shape.Idx → Elt F .f32 :=
  c11.readCov (zPieces (zOf hn lw) k (zCount j) (zCount_le j)) r

/-- The gated rows, read back. -/
def actOf (hn : Vec F S512x1024 .bf16) (k : (q : ℕ) → q < 44 → Vec F S1x8x128 .f32) : Vec F S512x2816 .bf16 :=
  c13.readCov (aPieces (zLoads c11 lw hn k) lb lc 176 le_rfl) (Rect.unit ![0, 0] S512x2816.size inb_S512x2816_S512x2816_0_0).toLoadRect

/-- The slabs of the down projection, read back. -/
def yLoads (a : Vec F S512x2816 .bf16) : Loads F S8x512x128 .f32 := fun r =>
  c14.readCov (yPieces (ypBlk a (ld (Rect.unit ![0, 0, 0] S1x2816x1024.size inb_S1x2816x1024_S1x2816x1024_0_0_0))) 16 le_rfl) r.toLoadRect

/-- The stores of a grid point into its output block, from the carried rows `k` it reads. -/
def pointOut (k : (q : ℕ) → q < 44 → Vec F S1x8x128 .f32) : List (View.Piece (Elt F) S1x512x1024 .f32) :=
  oPieces lx (yLoads c14 ld (actOf c11 c13 lw lc lb (hnOf c10 lx lg) k)) (lf (Rect.unit ![0, 0] S1x1024.size inb_S1x1024_S1x1024_0_0)) 16 le_rfl

/-- The stores of a grid point into the carry, on top of the stores `L`. -/
def pointCarry (L : List (View.Piece (Elt F) S44x8x128 .f32)) (n : ℕ) (h : n ≤ 44) : List (View.Piece (Elt F) S44x8x128 .f32) :=
  kPieces (zOf (hnOf c10 lx lg) lw) L n h

end Point

/-- The loads of a whole memref that holds `X`. -/
abbrev loadsOf {sg : RefSig} {S : Shape} {e : EltTy} (a : Memref sg .tc .vmem S e) (h : a.IsWhole) (X : Vec F S e) : Loads F S e :=
  fun r => View.readAt (Elt F) a.view r.toLoadRect (h.unread X)

end Cert.Ffn

end
-- ==== Proof.Ffn.Spec.lean ====
/- The gated feed-forward layer with its causal three-tap convolution and the final RMS norm, in plain mathematics on
   the extended reals: the function both programs are shown to compute. A sequence of rows is a function of a token. -/
module

public import proofs.«01_k».proof.Proof.Sgu.Spec

@[expose] public section

noncomputable section

namespace Cert.Ffn

open Idealize.ShloMosaic Cert.Sgu

/-- One column of the up projection of a normalised row. -/
def up (h : Fin 1024 → EReal) (W : Fin 1024 → Fin 5632 → EReal) (c : Fin 5632) : EReal := ∑ k, h k * W k c

/-- A sequence of numbers with two zeros in front of it, at position `n`. -/
def padded (z : Fin 16384 → EReal) (n : Fin 16386) : EReal :=
  if h : 2 ≤ n.val then z ⟨n.val - 2, by have := n.isLt; omega⟩ else 0

/-- Three numbers under three weights, plus a bias. -/
def conv (b : EReal) (w : Fin 3 → EReal) (p0 p1 p2 : EReal) : EReal := b + p0 * w 0 + p1 * w 1 + p2 * w 2

/-- The causal convolution of a sequence of numbers: token `T` sees itself and the two tokens before it. -/
def convAt (z : Fin 16384 → EReal) (w : Fin 3 → EReal) (b : EReal) (T : Fin 16384) : EReal :=
  conv b w (padded z ⟨T.val, by have := T.isLt; omega⟩) (padded z ⟨T.val + 1, by have := T.isLt; omega⟩) (padded z ⟨T.val + 2, by have := T.isLt; omega⟩)

/-- A column of the half that goes through GELU, among the columns of the up projection. -/
def uCol (c : Fin 2816) : Fin 5632 := ⟨c, by have := c.isLt; omega⟩

/-- A column of the other half. -/
def vCol (c : Fin 2816) : Fin 5632 := ⟨2816 + c, by have := c.isLt; omega⟩

/-- The hidden row of token `T` at column `c`. -/
def hidden (X : Fin 16384 → Fin 1024 → EReal) (g : Fin 1024 → EReal) (W : Fin 1024 → Fin 5632 → EReal) (cw : Fin 3 → Fin 5632 → EReal)
    (cb : Fin 5632 → EReal) (T : Fin 16384) (c : Fin 2816) : EReal :=
  gelu (convAt (fun T => up (rms (X T) g) W (uCol c)) (fun k => cw k (uCol c)) (cb (uCol c)) T)
    * convAt (fun T => up (rms (X T) g) W (vCol c)) (fun k => cw k (vCol c)) (cb (vCol c)) T

/-- A row of the stream plus its hidden row through the down projection, under the final norm. -/
def close (x : Fin 1024 → EReal) (a : Fin 2816 → EReal) (Wd : Fin 2816 → Fin 1024 → EReal) (fg : Fin 1024 → EReal) : Fin 1024 → EReal :=
  rms (fun d => x d + ∑ c, a c * Wd c d) fg

/-- The layer on one sequence `X`, at token `T` and column `d`. -/
def layer (X : Fin 16384 → Fin 1024 → EReal) (g : Fin 1024 → EReal) (W : Fin 1024 → Fin 5632 → EReal) (cw : Fin 3 → Fin 5632 → EReal)
    (cb : Fin 5632 → EReal) (Wd : Fin 2816 → Fin 1024 → EReal) (fg : Fin 1024 → EReal) (T : Fin 16384) (d : Fin 1024) : EReal :=
  close (X T) (hidden X g W cw cb T) Wd fg d

end Cert.Ffn

end
-- ==== Proof.Ffn.Pieces.lean ====
/- The stores of one grid point into its scratch buffers read back at an index: the normalised rows, the carry and the
   slabs of the up projection. -/
module

public import proofs.«01_k».proof.Proof.Ffn.Block
public import proofs.«01_k».proof.Proof.Ffn.Spec
public import Idealize.ShloMosaic.Lib.Pipeline.ValueKit.Acc
public import Idealize.ShloMosaic.Lib.Pipeline.ValueKit.Tiles

@[expose] public section

noncomputable section

namespace Cert.Ffn

open Cert.Kernel2Ideal Cert.Kernel2Ideal.Gen Idealize.ShloMosaic Idealize.SL.Sem
open Cert.Sgu (rms gelu)

/-- A list of stores whose last agrees with `G`, and whose earlier ones do wherever the last does not reach, leaves `G`. -/
theorem canon_step {S : Shape} {e : EltTy} (G : S.Idx → Elt Ideal e) (r : Rect S) (w : r.shape.Idx → Elt Ideal e) (L : List (View.Piece (Elt Ideal) S e))
    (y : S.Idx) (hp : ∀ x, w x = G (r.emb x)) (hL : y ∉ r.set → View.canon L y = G y) : View.canon (⟨r, w⟩ :: L) y = G y := by
  by_cases hy : y ∈ r.set
  · obtain ⟨x, rfl⟩ := r.exists_idx_of_mem hy
    exact (View.canon_cons_emb r w L x).trans (hp x)
  · rw [View.canon_cons_of_not_mem _ L hy, hL hy]

/-- A store that does not reach an index leaves it alone. -/
theorem canon_skip {S : Shape} {e : EltTy} (r : Rect S) (w : r.shape.Idx → Elt Ideal e) (L : List (View.Piece (Elt Ideal) S e)) (y : S.Idx) (hy : y ∉ r.set) :
    View.canon (⟨r, w⟩ :: L) y = View.canon L y :=
  View.canon_cons_of_not_mem _ L hy

/-- The loads of a whole memref holding `X` read `X`. -/
theorem loadsOf_eq {F : FTy → Type} [FloatOps F] {sg : RefSig} {S : Shape} {e : EltTy} (a : Memref sg .tc .vmem S e) (h : a.IsWhole) (X : Vec F S e) :
    loadsOf a h X = fun r => View.ld X r := by
  funext r; rw [loadsOf, View.readAt_eq_ld, h.read_unread]

/-! ## The normalised rows -/

/-- The RMS norm of 32 rows at an index. -/
theorem normRows_apply (x : FVec Ideal S32x1024 .f32) (g : FVec Ideal S1x1024 .f32) (i : S32x1024.Idx) :
    normRows x g i = rms (fun k => x (ix2 (i 0) k)) (fun k => g (ix2 0 k)) (i 1) := by
  unfold normRows rms; pointwise

/-- A strip of 32 normalised rows at an index. -/
theorem normStrip_apply (x : Vec Ideal S1x32x1024 .f32) (g : Vec Ideal S1x1x1024 .f32) (i : S32x1024.Idx) :
    normStrip x g i = rms (fun k => x (ix3 0 (i 0) k)) (fun k => g (ix3 0 0 k)) (i 1) := by
  unfold normStrip normRows rms; pointwise

/-- The normalised rows of a block, at an index. -/
def hnAt (X : Vec Ideal S1x512x1024 .f32) (g : Vec Ideal S1x1x1024 .f32) (y : S512x1024.Idx) : EReal :=
  rms (fun k => X (ix3 0 (y 0) k)) (fun k => g (ix3 0 0 k)) (y 1)

/-- Where a strip's index lies in the buffer of normalised rows. -/
theorem emb_hRect (n : ℕ) (h : n < 16) (x : (hRect n h).shape.Idx) :
    (hRect n h).emb x = ix2 (⟨32 * n + (x 0).val, by have : (x 0).val < 32 := (x 0).isLt; omega⟩ : Fin 512) (x 1 : Fin 1024) :=
  funext fun a => match a with
    | ⟨0, _⟩ => Fin.ext (Rect.idx_unit_val _ _ _ x 0)
    | ⟨1, _⟩ => Fin.ext ((Rect.idx_unit_val _ _ _ x 1).trans (Nat.zero_add _))

/-- The buffer of normalised rows after its first `n` strips. -/
theorem hPieces_apply (X : Vec Ideal S1x512x1024 .f32) (g : Vec Ideal S1x1x1024 .f32) : ∀ (n : ℕ) (h : n ≤ 16) (y : S512x1024.Idx), (y 0).val < 32 * n →
    View.canon (hPieces (fun r => View.ld X r) g n h) y = hnAt X g y
  | 0, _, y, hy => absurd hy (by omega)
  | n + 1, h, y, hy => by
    rw [hPieces]
    refine canon_step (e := .bf16) (hnAt X g) _ _ _ y (fun x => ?_) fun hn => ?_
    · rw [emb_hRect, normStrip_apply]
      unfold hnAt
      pointwise
    · refine hPieces_apply X g n _ y ?_
      by_contra hc
      refine hn (Rect.mem_set_unit.mpr fun a => ?_)
      match a with
      | ⟨0, _⟩ => exact ⟨by show 32 * n ≤ (y 0).val; omega, by show (y 0).val < 32 * n + 32; omega⟩
      | ⟨1, _⟩ => exact ⟨Nat.zero_le _, by have : (y 1).val < 1024 := (y 1).isLt; show (y 1).val < 0 + 1024; omega⟩

/-- The whole buffer of normalised rows. -/
theorem hnOf_eq {sg : RefSig} (c10 : View sg .tc .vmem S512x1024 .bf16) (X : Vec Ideal S1x512x1024 .f32) (g : Vec Ideal S1x1x1024 .f32) :
    hnOf c10 (fun r => View.ld X r) (fun r => View.ld g r) = hnAt X g := by
  unfold hnOf
  rw [View.readCov_eq_canon']
  dsimp only
  rw [View.ld_unit_lit' _ g (by decide)]
  funext y
  have e : (Rect.unit ![0, 0] S512x1024.size inb_S512x1024_S512x1024_0_0).toLoadRect.idx y = y :=
    funext fun a => Fin.ext ((Rect.idx_unit_val _ _ _ y a).trans (by fin_cases a <;> exact Nat.zero_add _))
  rw [e]
  exact hPieces_apply X g 16 le_rfl y (y 0).isLt

/-! ## The up projection -/

/-- The up projection of the normalised rows `hn` at a row and a column. -/
def zAt (hn : Vec Ideal S512x1024 .bf16) (W : Vec Ideal S1x1024x5632 .bf16) (r : Fin 512) (c : Fin 5632) : EReal :=
  up (fun k => hn (ix2 r k)) (fun k c => W (ix3 0 k c)) c

/-- A block of 256 columns of the up projection at an index. -/
theorem zBlk_apply (hn : Vec Ideal S512x1024 .bf16) (w : Vec Ideal S1x1024x256 .bf16) (i : S512x256.Idx) :
    zBlk hn w i = ∑ k, hn (ix2 (i 0) k) * w (ix3 0 k (i 1)) := by
  unfold zBlk; pointwise

/-- The columns that step `q` computes, at an index. -/
theorem zOf_apply (hn : Vec Ideal S512x1024 .bf16) (W : Vec Ideal S1x1024x5632 .bf16) (q : ℕ) (h : q < 44) (r : Fin 512) (l : Fin 128) :
    zOf hn (fun r => View.ld W r) q h (ix2 r l) = zAt hn W r ⟨128 * slab q + l.val, by have := l.isLt; unfold slab; omega⟩ := by
  have hl := l.isLt
  unfold zOf
  have e : (fun i => zBlk hn (View.ld W (wRect (q / 2) (by omega))) i) = fun i => _ := funext fun i => zBlk_apply hn _ i
  rw [show zBlk hn (View.ld W (wRect (q / 2) (by omega))) = _ from e]
  unfold zAt up
  pointwise
  refine Finset.sum_congr rfl fun k _ => congrArg (fun c => _ * W (ix3 0 k c)) (Fin.ext ?_)
  show 2816 * (q / 2 % 2) + 256 * (q / 2 / 2) + (128 * (q % 2) + l.val) = 128 * (22 * (q / 2 % 2) + 2 * (q / 4) + q % 2) + l.val
  omega

/-! ## The carry -/

/-- The slab of step `q`, as an index. -/
def slabIx (q : ℕ) (h : q < 44) : Fin 44 := ⟨slab q, by unfold slab; omega⟩

/-- Where an index of a carried slab lies in the carry. -/
theorem emb_kRect (q : ℕ) (h : q < 44) (x : (kRect q h).shape.Idx) :
    (kRect q h).emb x = ix3 (⟨slab q, by unfold slab; omega⟩ : Fin 44) (x 1 : Fin 8) (x 2 : Fin 128) :=
  funext fun a => match a with
    | ⟨0, _⟩ => Fin.ext ((Rect.idx_unit_val _ _ _ x 0).trans (by have : (x 0).val < 1 := (x 0).isLt; show slab q + (x 0).val = slab q; omega))
    | ⟨1, _⟩ => Fin.ext ((Rect.idx_unit_val _ _ _ x 1).trans (Nat.zero_add _))
    | ⟨2, _⟩ => Fin.ext ((Rect.idx_unit_val _ _ _ x 2).trans (Nat.zero_add _))

/-- A slab index belongs to one step's rows exactly when it is that step's. -/
theorem mem_kRect (q : ℕ) (h : q < 44) (y : S44x8x128.Idx) : y ∈ (kRect q h).set ↔ (y 0).val = slab q := by
  have h1 : (y 1).val < 8 := (y 1).isLt
  have h2 : (y 2).val < 128 := (y 2).isLt
  constructor
  · intro hm
    have := Rect.mem_set_unit.mp hm 0
    have h3 : slab q ≤ (y 0).val := this.1
    have h4 : (y 0).val < slab q + 1 := this.2
    omega
  · intro he
    refine Rect.mem_set_unit.mpr fun a => ?_
    match a with
    | ⟨0, _⟩ => exact ⟨by show slab q ≤ (y 0).val; omega, by show (y 0).val < slab q + 1; omega⟩
    | ⟨1, _⟩ => exact ⟨Nat.zero_le _, by show (y 1).val < 0 + 8; omega⟩
    | ⟨2, _⟩ => exact ⟨Nat.zero_le _, by show (y 2).val < 0 + 128; omega⟩

/-- The carry read at a slab that its first `n` stores do not reach. -/
theorem kPieces_skip (z : (q : ℕ) → q < 44 → FVec Ideal S512x128 .f32) (L : List (View.Piece (Elt Ideal) S44x8x128 .f32)) : ∀ (n : ℕ) (h : n ≤ 44) (y : S44x8x128.Idx), (∀ q < n, (y 0).val ≠ slab q) →
    View.canon (kPieces z L n h) y = View.canon L y
  | 0, _, _, _ => by rw [kPieces]
  | n + 1, h, y, hy => by
    rw [kPieces]
    refine (canon_skip (e := .f32) _ _ _ y fun hm => hy n (Nat.lt_succ_self n) ((mem_kRect n h y).mp hm)).trans ?_
    exact kPieces_skip z L n _ y fun q hq => hy q (Nat.lt_succ_of_lt hq)

/-- What the carry holds after a tile: the last eight rows of its up projection. -/
def lastRows (hn : Vec Ideal S512x1024 .bf16) (W : Vec Ideal S1x1024x5632 .bf16) (y : S44x8x128.Idx) : EReal :=
  zAt hn W ⟨504 + (y 1).val, by have : (y 1).val < 8 := (y 1).isLt; omega⟩ ⟨128 * (y 0).val + (y 2).val, by have : (y 0).val < 44 := (y 0).isLt; have : (y 2).val < 128 := (y 2).isLt; omega⟩

/-- The last eight rows of a slab at an index. -/
theorem tailOf_apply (z : FVec Ideal S512x128 .f32) (x : S1x8x128.Idx) :
    tailOf z x = z (ix2 ⟨504 + (x 1).val, by have : (x 1).val < 8 := (x 1).isLt; omega⟩ (x 2)) := by
  unfold tailOf; pointwise

/-- The carry after its first `n` stores, at a slab they reach. -/
theorem kPieces_apply (hn : Vec Ideal S512x1024 .bf16) (W : Vec Ideal S1x1024x5632 .bf16) (L : List (View.Piece (Elt Ideal) S44x8x128 .f32)) : ∀ (n : ℕ) (h : n ≤ 44) (y : S44x8x128.Idx), (∃ q < n, (y 0).val = slab q) →
    View.canon (kPieces (zOf hn fun r => View.ld W r) L n h) y = lastRows hn W y
  | 0, _, y, ⟨_, hq, _⟩ => absurd hq (by omega)
  | n + 1, h, y, ⟨q, hq, he⟩ => by
    rw [kPieces]
    refine canon_step (e := .f32) (lastRows hn W) _ _ _ y (fun x => ?_) fun hc => ?_
    · rw [emb_kRect]
      refine (tailOf_apply _ x).trans ((zOf_apply hn W n h _ _).trans ?_)
      rfl
    · refine kPieces_apply hn W L n _ y ⟨q, ?_, he⟩
      have : q ≠ n := fun e => hc ((mem_kRect n h y).mpr (e ▸ he))
      omega

/-- Every slab of the carry is some step's. -/
theorem slab_surj : ∀ s : Fin 44, ∃ q < 44, s.val = slab q := by decide

/-- Two steps have different slabs. -/
theorem slab_inj (q q' : ℕ) (h : q < 44) (h' : q' < 44) (e : slab q = slab q') : q = q' := by
  exact Fin.mk.inj ((by decide : ∀ q q' : Fin 44, slab q.val = slab q'.val → q = q') ⟨q, h⟩ ⟨q', h'⟩ e)

/-- The carry after a tile. -/
theorem carry_eq (hn : Vec Ideal S512x1024 .bf16) (W : Vec Ideal S1x1024x5632 .bf16) (L : List (View.Piece (Elt Ideal) S44x8x128 .f32)) :
    View.canon (kPieces (zOf hn fun r => View.ld W r) L 44 le_rfl) = lastRows hn W :=
  funext fun y => kPieces_apply hn W L 44 le_rfl y (slab_surj (y 0))

/-! ## The slabs -/

/-- A row of the slabs: the eight carried rows `K`, then the rows of the tile. -/
def tileAt (hn : Vec Ideal S512x1024 .bf16) (W : Vec Ideal S1x1024x5632 .bf16) (K : Vec Ideal S44x8x128 .f32) (n : Fin 520) (c : Fin 5632) : EReal :=
  if h : n.val < 8 then K (ix3 ⟨c.val / 128, by have := c.isLt; omega⟩ ⟨n.val, h⟩ ⟨c.val % 128, Nat.mod_lt _ (by decide)⟩)
  else zAt hn W ⟨n.val - 8, by have := n.isLt; omega⟩ c

/-- Column `l` of step `q`. -/
def colOf (q : ℕ) (h : q < 44) (l : Fin 128) : Fin 5632 := ⟨128 * slab q + l.val, by have := l.isLt; unfold slab; omega⟩

/-- Which indices the carried rows of step `q` fill. -/
theorem mem_z0Rect (q : ℕ) (h : q < 44) (y : S2x4x520x128.Idx) : y ∈ (z0Rect q h).set ↔ (y 0).val = q / 4 % 2 ∧ (y 1).val = q % 4 ∧ (y 2).val < 8 := by
  have h3 : (y 3).val < 128 := (y 3).isLt
  constructor
  · intro hm
    have a0 := Rect.mem_set_unit.mp hm 0
    have a1 := Rect.mem_set_unit.mp hm 1
    have a2 : (y 2).val < 0 + 8 := (Rect.mem_set_unit.mp hm 2).2
    have b0 : q / 4 % 2 ≤ (y 0).val := a0.1
    have b1 : (y 0).val < q / 4 % 2 + 1 := a0.2
    have b2 : q % 4 ≤ (y 1).val := a1.1
    have b3 : (y 1).val < q % 4 + 1 := a1.2
    omega
  · rintro ⟨e0, e1, e2⟩
    refine Rect.mem_set_unit.mpr fun a => ?_
    match a with
    | ⟨0, _⟩ => exact ⟨by show q / 4 % 2 ≤ (y 0).val; omega, by show (y 0).val < q / 4 % 2 + 1; omega⟩
    | ⟨1, _⟩ => exact ⟨by show q % 4 ≤ (y 1).val; omega, by show (y 1).val < q % 4 + 1; omega⟩
    | ⟨2, _⟩ => exact ⟨Nat.zero_le _, by show (y 2).val < 0 + 8; omega⟩
    | ⟨3, _⟩ => exact ⟨Nat.zero_le _, by show (y 3).val < 0 + 128; omega⟩

/-- Which indices the rows of step `q` fill. -/
theorem mem_z1Rect (q : ℕ) (h : q < 44) (y : S2x4x520x128.Idx) : y ∈ (z1Rect q h).set ↔ (y 0).val = q / 4 % 2 ∧ (y 1).val = q % 4 ∧ 8 ≤ (y 2).val := by
  have h3 : (y 3).val < 128 := (y 3).isLt
  have h2 : (y 2).val < 520 := (y 2).isLt
  constructor
  · intro hm
    have a0 := Rect.mem_set_unit.mp hm 0
    have a1 := Rect.mem_set_unit.mp hm 1
    have a2 : 8 ≤ (y 2).val := (Rect.mem_set_unit.mp hm 2).1
    have b0 : q / 4 % 2 ≤ (y 0).val := a0.1
    have b1 : (y 0).val < q / 4 % 2 + 1 := a0.2
    have b2 : q % 4 ≤ (y 1).val := a1.1
    have b3 : (y 1).val < q % 4 + 1 := a1.2
    omega
  · rintro ⟨e0, e1, e2⟩
    refine Rect.mem_set_unit.mpr fun a => ?_
    match a with
    | ⟨0, _⟩ => exact ⟨by show q / 4 % 2 ≤ (y 0).val; omega, by show (y 0).val < q / 4 % 2 + 1; omega⟩
    | ⟨1, _⟩ => exact ⟨by show q % 4 ≤ (y 1).val; omega, by show (y 1).val < q % 4 + 1; omega⟩
    | ⟨2, _⟩ => exact ⟨e2, by show (y 2).val < 8 + 512; omega⟩
    | ⟨3, _⟩ => exact ⟨Nat.zero_le _, by show (y 3).val < 0 + 128; omega⟩

/-- Where an index of the carried rows of step `q` lies among the slabs. -/
theorem emb_z0Rect (q : ℕ) (h : q < 44) (x : (z0Rect q h).shape.Idx) :
    (z0Rect q h).emb x = ix4 (⟨q / 4 % 2, by omega⟩ : Fin 2) (⟨q % 4, by omega⟩ : Fin 4) (⟨(x 2).val, by have : (x 2).val < 8 := (x 2).isLt; omega⟩ : Fin 520) (x 3 : Fin 128) :=
  funext fun a => match a with
    | ⟨0, _⟩ => Fin.ext ((Rect.idx_unit_val _ _ _ x 0).trans (by have : (x 0).val < 1 := (x 0).isLt; show q / 4 % 2 + (x 0).val = q / 4 % 2; omega))
    | ⟨1, _⟩ => Fin.ext ((Rect.idx_unit_val _ _ _ x 1).trans (by have : (x 1).val < 1 := (x 1).isLt; show q % 4 + (x 1).val = q % 4; omega))
    | ⟨2, _⟩ => Fin.ext ((Rect.idx_unit_val _ _ _ x 2).trans (Nat.zero_add _))
    | ⟨3, _⟩ => Fin.ext ((Rect.idx_unit_val _ _ _ x 3).trans (Nat.zero_add _))

/-- Where an index of the rows of step `q` lies among the slabs. -/
theorem emb_z1Rect (q : ℕ) (h : q < 44) (x : (z1Rect q h).shape.Idx) :
    (z1Rect q h).emb x = ix4 (⟨q / 4 % 2, by omega⟩ : Fin 2) (⟨q % 4, by omega⟩ : Fin 4) (⟨8 + (x 2).val, by have : (x 2).val < 512 := (x 2).isLt; omega⟩ : Fin 520) (x 3 : Fin 128) :=
  funext fun a => match a with
    | ⟨0, _⟩ => Fin.ext ((Rect.idx_unit_val _ _ _ x 0).trans (by have : (x 0).val < 1 := (x 0).isLt; show q / 4 % 2 + (x 0).val = q / 4 % 2; omega))
    | ⟨1, _⟩ => Fin.ext ((Rect.idx_unit_val _ _ _ x 1).trans (by have : (x 1).val < 1 := (x 1).isLt; show q % 4 + (x 1).val = q % 4; omega))
    | ⟨2, _⟩ => Fin.ext (Rect.idx_unit_val _ _ _ x 2)
    | ⟨3, _⟩ => Fin.ext ((Rect.idx_unit_val _ _ _ x 3).trans (Nat.zero_add _))

section Slabs
variable (hn : Vec Ideal S512x1024 .bf16) (W : Vec Ideal S1x1024x5632 .bf16) (K : Vec Ideal S44x8x128 .f32)
  (k : (q : ℕ) → q < 44 → Vec Ideal S1x8x128 .f32) (hk : ∀ q h (x : S1x8x128.Idx), k q h x = K (ix3 (slabIx q h) (x 1) (x 2)))

include hk in
/-- The carried rows of step `q` at an index. -/
theorem carried_apply (q : ℕ) (h : q < 44) (x : S1x1x8x128.Idx) :
    (shapeCast S1x1x8x128 (shapeCast S8x128 (k q h) shapeCasts_S1x8x128_S8x128 : FVec Ideal S8x128 .f32) shapeCasts_S8x128_S1x1x8x128 : FVec Ideal S1x1x8x128 .f32) x
      = tileAt hn W K ⟨(x 2).val, by have : (x 2).val < 8 := (x 2).isLt; omega⟩ (colOf q h (x 3)) := by
  have h2 : (x 2).val < 8 := (x 2).isLt
  have h3 : (x 3).val < 128 := (x 3).isLt
  have e := hk q h
  unfold tileAt
  rw [dif_pos h2]
  generalize k q h = v at e ⊢
  pointwise
  refine (e _).trans (congrArg K (funext fun a => ?_))
  match a with
  | ⟨0, _⟩ => exact Fin.ext (by show slab q = (128 * slab q + (x 3).val) / 128; omega)
  | ⟨1, _⟩ => rfl
  | ⟨2, _⟩ => exact Fin.ext (by show (x 3).val = (128 * slab q + (x 3).val) % 128; omega)

/-- The rows of step `q` at an index. -/
theorem rows_apply (q : ℕ) (h : q < 44) (x : S1x1x512x128.Idx) :
    (shapeCast S1x1x512x128 (zOf hn (fun r => View.ld W r) q h) shapeCasts_S512x128_S1x1x512x128 : FVec Ideal S1x1x512x128 .f32) x
      = tileAt hn W K ⟨8 + (x 2).val, by have : (x 2).val < 512 := (x 2).isLt; omega⟩ (colOf q h (x 3)) := by
  have h2 : (x 2).val < 512 := (x 2).isLt
  have e := zOf_apply hn W q h
  unfold tileAt
  rw [dif_neg (by show ¬ 8 + (x 2).val < 8; omega)]
  generalize zOf hn (fun r => View.ld W r) q h = v at e ⊢
  pointwise
  refine (e _ _).trans (congrArg₂ (zAt hn W) (Fin.ext ?_) rfl)
  first
    | rfl
    | (show (x 2).val = 8 + (x 2).val - 8; omega)

include hk in
/-- The slabs after their first `n` steps, where step `q` is the last that filled its own. -/
theorem zPieces_apply (q : ℕ) (h : q < 44) (y : S2x4x520x128.Idx) (e0 : (y 0).val = q / 4 % 2) (e1 : (y 1).val = q % 4) : ∀ (n : ℕ) (hn' : n ≤ 44), q < n → n ≤ 4 * (q / 4) + 8 →
    View.canon (zPieces (zOf hn fun r => View.ld W r) k n hn') y = tileAt hn W K (y 2) (colOf q h (y 3))
  | 0, _, hq, _ => absurd hq (by omega)
  | n + 1, hn', hq, hu => by
    rw [zPieces]
    by_cases c : q = n
    · subst c
      have h2 : (y 2).val < 520 := (y 2).isLt
      refine canon_step (e := .f32) (fun y => tileAt hn W K (y 2) (colOf q h (y 3))) _ _ _ y (fun x => ?_) fun hm => ?_
      · refine (rows_apply hn W K q h x).trans ?_
        exact (congrArg (fun y : S2x4x520x128.Idx => tileAt hn W K (y 2) (colOf q h (y 3))) (emb_z1Rect q h x)).symm
      · refine canon_step (e := .f32) (fun y => tileAt hn W K (y 2) (colOf q h (y 3))) _ _ _ y (fun x => ?_) fun hm' => ?_
        · refine (carried_apply hn W K k hk q h x).trans ?_
          exact (congrArg (fun y : S2x4x520x128.Idx => tileAt hn W K (y 2) (colOf q h (y 3))) (emb_z0Rect q h x)).symm
        · rw [mem_z1Rect] at hm
          rw [mem_z0Rect] at hm'
          omega
    · refine (canon_skip (e := .f32) _ _ _ y fun hm => ?_).trans ?_
      · have := (mem_z1Rect n hn' y).mp hm; omega
      refine (canon_skip (e := .f32) _ _ _ y fun hm => ?_).trans ?_
      · have := (mem_z0Rect n hn' y).mp hm; omega
      exact zPieces_apply q h y e0 e1 n _ (by omega) (by omega)

include hk in
/-- The rows a tap loads. -/
theorem zLoads_apply {sg : RefSig} (c11 : View sg .tc .vmem S2x4x520x128 .f32) (q o : ℕ) (h : q < 44) (ho : o < 394) (x : S1x1x64x128.Idx) :
    zLoads c11 (fun r => View.ld W r) hn k (q / 4) (tRect q o h ho) x
      = tileAt hn W K ⟨o + 2 * (x 2).val, by have : (x 2).val < 64 := (x 2).isLt; omega⟩ (colOf q h (x 3)) := by
  have h0 : (x 0).val < 1 := (x 0).isLt
  have h1 : (x 1).val < 1 := (x 1).isLt
  unfold zLoads
  rw [View.readCov_eq_canon']
  refine (zPieces_apply hn W K k hk q h ((tRect q o h ho).idx x) ?_ ?_ _ _ ?_ ?_).trans ?_
  · show q / 4 % 2 + 1 * (x 0).val = q / 4 % 2; omega
  · show q % 4 + 1 * (x 1).val = q % 4; omega
  · unfold zCount; omega
  · unfold zCount; omega
  · refine congrArg₂ (tileAt hn W K) rfl (Fin.ext ?_)
    show 128 * slab q + (0 + 1 * (x 3).val) = 128 * slab q + (x 3).val
    omega

end Slabs

end Cert.Ffn

end
-- ==== Proof.Ffn.Gated.lean ====
/- The gated rows of one grid point read back at an index. -/
module

public import proofs.«01_k».proof.Proof.Ffn.Pieces

@[expose] public section

noncomputable section

namespace Cert.Ffn

open Cert.Kernel2Ideal Cert.Kernel2Ideal.Gen Idealize.ShloMosaic Idealize.SL.Sem
open Cert.Sgu (rms gelu)

/-- The convolution of 64 rows at an index. -/
theorem convBlk_apply (b : Vec Ideal S1x1x128 .f32) (z0 : Vec Ideal S1x1x64x128 .f32) (w0 : Vec Ideal S1x1x128 .f32) (z1 : Vec Ideal S1x1x64x128 .f32) (w1 : Vec Ideal S1x1x128 .f32)
    (z2 : Vec Ideal S1x1x64x128 .f32) (w2 : Vec Ideal S1x1x128 .f32) (i : S64x128.Idx) :
    convBlk b z0 w0 z1 w1 z2 w2 i = b (ix3 0 0 (i 1)) + z0 (ix4 0 0 (i 0) (i 1)) * w0 (ix3 0 0 (i 1)) + z1 (ix4 0 0 (i 0) (i 1)) * w1 (ix3 0 0 (i 1)) + z2 (ix4 0 0 (i 0) (i 1)) * w2 (ix3 0 0 (i 1)) := by
  unfold convBlk tap; pointwise

/-- The gate at an index. -/
theorem gateBlk_apply (u v : FVec Ideal S64x128 .f32) (i : S64x128.Idx) : gateBlk u v i = gelu (u i) * v i := by
  unfold gateBlk gelu; pointwise
  exact congrArg (· * v i) ((congrArg (· * _) (mul_comm _ _)).trans (mul_assoc _ _ _))

/-- The slab of column block `b` of block `a` and half `e`. -/
theorem slab_gate (a b e : ℕ) (hb : b < 2) (he : e < 2) : slab (4 * a + 2 * e + b) = 22 * e + 2 * a + b := by
  have a1 : (4 * a + 2 * e + b) / 2 = 2 * a + e := by omega
  have a2 : (4 * a + 2 * e + b) / 4 = a := by omega
  have a3 : (4 * a + 2 * e + b) % 2 = b := by omega
  have a4 : (2 * a + e) % 2 = e := by omega
  unfold slab; rw [a1, a2, a3, a4]

section Act
variable (hn : Vec Ideal S512x1024 .bf16) (W : Vec Ideal S1x1024x5632 .bf16) (K : Vec Ideal S44x8x128 .f32)
  (k : (q : ℕ) → q < 44 → Vec Ideal S1x8x128 .f32) (hk : ∀ q h (x : S1x8x128.Idx), k q h x = K (ix3 (slabIx q h) (x 1) (x 2)))
  (cb : Vec Ideal S1x1x5632 .f32) (cw : Vec Ideal S1x3x5632 .f32)

/-- The convolution of a tile at a row and a column. -/
def convTile (r : Fin 512) (c : Fin 5632) : EReal :=
  conv (cb (ix3 0 0 c)) (fun t => cw (ix3 0 t c)) (tileAt hn W K ⟨r.val + 6, by have := r.isLt; omega⟩ c) (tileAt hn W K ⟨r.val + 7, by have := r.isLt; omega⟩ c) (tileAt hn W K ⟨r.val + 8, by have := r.isLt; omega⟩ c)

/-- The gated activation of a tile at a row and a column. -/
def hid (r : Fin 512) (c : Fin 2816) : EReal :=
  gelu (convTile hn W K cb cw r (uCol c)) * convTile hn W K cb cw r (vCol c)

/-- The tile row that row `r` of the gated buffer holds: even rows first, then odd ones. -/
def rowOf (r : Fin 512) : Fin 512 := ⟨2 * (r.val % 256) + r.val / 256, by have := r.isLt; omega⟩

include hk in
/-- One convolution of 64 rows, from the buffers it reads. -/
theorem convOf_apply {sg : RefSig} (c11 : View sg .tc .vmem S2x4x520x128 .f32) (e p : ℕ) (he : e < 2) (h : p < 176) (u : Fin 64) (l : Fin 128) (r : Fin 512) (c : Fin 5632)
    (hr : r.val = p / 8 % 2 + 128 * (p % 4) + 2 * u.val) (hc : c.val = 2816 * e + 256 * (p / 16) + 128 * (p / 4 % 2) + l.val) :
    convOf (zLoads c11 (fun r => View.ld W r) hn k) (fun r => View.ld cb r) (fun r => View.ld cw r) e p he h (ix2 u l) = convTile hn W K cb cw r c := by
  have hu := u.isLt
  have hl := l.isLt
  have hq : 4 * (p / 16) + 2 * e + p / 4 % 2 < 44 := by omega
  have hs : 128 * slab (4 * (p / 16) + 2 * e + p / 4 % 2) + l.val = c.val := by
    rw [slab_gate _ _ _ (by omega) he]; omega
  have hz : ∀ o (ho : o < 394) (n : Fin 520), n.val = o + 2 * u.val →
      zLoads c11 (fun r => View.ld W r) hn k (p / 16) (tRect (4 * (p / 16) + 2 * e + p / 4 % 2) o hq ho) (ix4 0 0 u l) = tileAt hn W K n c := by
    intro o ho n en
    have := zLoads_apply hn W K k hk c11 (4 * (p / 16) + 2 * e + p / 4 % 2) o hq ho (ix4 0 0 u l)
    rw [show (4 * (p / 16) + 2 * e + p / 4 % 2) / 4 = p / 16 by omega] at this
    exact this.trans (congrArg₂ (tileAt hn W K) (Fin.ext en.symm) (Fin.ext hs))
  have hb : (View.ld cb (bRect (4 * (p / 16) + 2 * e + p / 4 % 2) hq) : Vec Ideal S1x1x128 .f32) (ix3 0 0 l) = cb (ix3 0 0 c) := by
    refine congrArg cb (funext fun a => ?_)
    match a with
    | ⟨0, _⟩ => rfl
    | ⟨1, _⟩ => rfl
    | ⟨2, _⟩ => exact Fin.ext (by show 128 * slab (4 * (p / 16) + 2 * e + p / 4 % 2) + 1 * l.val = c.val; omega)
  have hw : ∀ t (ht : t < 3), (View.ld cw (cRect (4 * (p / 16) + 2 * e + p / 4 % 2) t hq ht) : Vec Ideal S1x1x128 .f32) (ix3 0 0 l) = cw (ix3 0 ⟨t, ht⟩ c) := by
    intro t ht
    refine congrArg cw (funext fun a => ?_)
    match a with
    | ⟨0, _⟩ => rfl
    | ⟨1, _⟩ => exact Fin.ext (by show t + 1 * 0 = t; omega)
    | ⟨2, _⟩ => exact Fin.ext (by show 128 * slab (4 * (p / 16) + 2 * e + p / 4 % 2) + 1 * l.val = c.val; omega)
  unfold convOf
  refine (convBlk_apply _ _ _ _ _ _ _ (ix2 u l)).trans ?_
  unfold convTile conv
  refine congrArg₂ (· + ·) (congrArg₂ (· + ·) (congrArg₂ (· + ·) hb (congrArg₂ (· * ·) (hz _ _ _ ?_) (hw 0 (by omega)))) (congrArg₂ (· * ·) (hz _ _ _ ?_) (hw 1 (by omega)))) (congrArg₂ (· * ·) (hz _ _ _ ?_) (hw 2 (by omega)))
  · show r.val + 6 = _; omega
  · show r.val + 7 = _; omega
  · show r.val + 8 = _; omega

/-- Which indices a store into the gated buffer fills. -/
theorem mem_aRect (p : ℕ) (h : p < 176) (y : S512x2816.Idx)
    (e : 16 * ((y 1).val / 256) + 8 * ((y 0).val / 256) + 4 * ((y 1).val / 128 % 2) + (y 0).val % 256 / 64 = p) : y ∈ (aRect p h).set := by
  have h0 : (y 0).val < 512 := (y 0).isLt
  have h1 : (y 1).val < 2816 := (y 1).isLt
  have a1 : p / 16 = (y 1).val / 256 := by omega
  have a2 : p / 8 % 2 = (y 0).val / 256 := by omega
  have a3 : p / 4 % 2 = (y 1).val / 128 % 2 := by omega
  have a4 : p % 4 = (y 0).val % 256 / 64 := by omega
  refine Rect.mem_set_unit.mpr fun a => ?_
  match a with
  | ⟨0, _⟩ => exact ⟨by show 256 * (p / 8 % 2) + 64 * (p % 4) ≤ (y 0).val; omega, by show (y 0).val < 256 * (p / 8 % 2) + 64 * (p % 4) + 64; omega⟩
  | ⟨1, _⟩ => exact ⟨by show 256 * (p / 16) + 128 * (p / 4 % 2) ≤ (y 1).val; omega, by show (y 1).val < 256 * (p / 16) + 128 * (p / 4 % 2) + 128; omega⟩

/-- Where an index of a store into the gated buffer lies. -/
theorem emb_aRect (p : ℕ) (h : p < 176) (x : (aRect p h).shape.Idx) :
    (aRect p h).emb x = ix2 (⟨256 * (p / 8 % 2) + 64 * (p % 4) + (x 0).val, by have : (x 0).val < 64 := (x 0).isLt; omega⟩ : Fin 512)
      (⟨256 * (p / 16) + 128 * (p / 4 % 2) + (x 1).val, by have : (x 1).val < 128 := (x 1).isLt; omega⟩ : Fin 2816) :=
  funext fun a => match a with
    | ⟨0, _⟩ => Fin.ext (Rect.idx_unit_val _ _ _ x 0)
    | ⟨1, _⟩ => Fin.ext (Rect.idx_unit_val _ _ _ x 1)

/-- The gated buffer at an index. -/
def actAt (y : S512x2816.Idx) : EReal := hid hn W K cb cw (rowOf (y 0)) (y 1)

include hk in
/-- The gated buffer after its first `n` stores. -/
theorem aPieces_apply {sg : RefSig} (c11 : View sg .tc .vmem S2x4x520x128 .f32) : ∀ (n : ℕ) (h : n ≤ 176) (y : S512x2816.Idx),
    16 * ((y 1).val / 256) + 8 * ((y 0).val / 256) + 4 * ((y 1).val / 128 % 2) + (y 0).val % 256 / 64 < n →
    View.canon (aPieces (zLoads c11 (fun r => View.ld W r) hn k) (fun r => View.ld cb r) (fun r => View.ld cw r) n h) y = actAt hn W K cb cw y
  | 0, _, _, hy => absurd hy (by omega)
  | n + 1, h, y, hy => by
    rw [aPieces]
    refine canon_step (e := .bf16) (actAt hn W K cb cw) _ _ _ y (fun x => ?_) fun hc => ?_
    · have hx0 : (x 0).val < 64 := (x 0).isLt
      have hx1 : (x 1).val < 128 := (x 1).isLt
      have ex : x = ix2 (⟨(x 0).val, hx0⟩ : Fin 64) (⟨(x 1).val, hx1⟩ : Fin 128) := funext fun a => match a with
        | ⟨0, _⟩ => rfl
        | ⟨1, _⟩ => rfl
      refine (gateBlk_apply _ _ x).trans ?_
      refine Eq.trans ?_ (congrArg (actAt hn W K cb cw) (emb_aRect n h x)).symm
      unfold actAt hid
      refine congrArg₂ (· * ·) (congrArg gelu ?_) ?_
      · refine (congrArg _ ex).trans (convOf_apply hn W K k hk cb cw c11 0 n (by omega) h _ _ _ _ ?_ ?_)
        · show 2 * ((256 * (n / 8 % 2) + 64 * (n % 4) + (x 0).val) % 256) + (256 * (n / 8 % 2) + 64 * (n % 4) + (x 0).val) / 256 = n / 8 % 2 + 128 * (n % 4) + 2 * (x 0).val
          omega
        · show 256 * (n / 16) + 128 * (n / 4 % 2) + (x 1).val = 2816 * 0 + 256 * (n / 16) + 128 * (n / 4 % 2) + (x 1).val
          omega
      · refine (congrArg _ ex).trans (convOf_apply hn W K k hk cb cw c11 1 n (by omega) h _ _ _ _ ?_ ?_)
        · show 2 * ((256 * (n / 8 % 2) + 64 * (n % 4) + (x 0).val) % 256) + (256 * (n / 8 % 2) + 64 * (n % 4) + (x 0).val) / 256 = n / 8 % 2 + 128 * (n % 4) + 2 * (x 0).val
          omega
        · show 2816 + (256 * (n / 16) + 128 * (n / 4 % 2) + (x 1).val) = 2816 * 1 + 256 * (n / 16) + 128 * (n / 4 % 2) + (x 1).val
          omega
    · refine aPieces_apply c11 n _ y ?_
      exact lt_of_le_of_ne (Nat.le_of_lt_succ hy) fun e => hc (mem_aRect n h y e)

include hk in
/-- The gated rows, read back. -/
theorem actOf_eq {sg : RefSig} (c11 : View sg .tc .vmem S2x4x520x128 .f32) (c13 : View sg .tc .vmem S512x2816 .bf16) :
    actOf c11 c13 (fun r => View.ld W r) (fun r => View.ld cw r) (fun r => View.ld cb r) hn k = actAt hn W K cb cw := by
  unfold actOf
  rw [View.readCov_eq_canon']
  funext y
  have h0 : (y 0).val < 512 := (y 0).isLt
  have h1 : (y 1).val < 2816 := (y 1).isLt
  have e : (Rect.unit ![0, 0] S512x2816.size inb_S512x2816_S512x2816_0_0).toLoadRect.idx y = y :=
    funext fun a => Fin.ext ((Rect.idx_unit_val _ _ _ y a).trans (by fin_cases a <;> exact Nat.zero_add _))
  dsimp only
  rw [e]
  exact aPieces_apply hn W K k hk cb cw c11 176 le_rfl y (by omega)

end Act

end Cert.Ffn

end
-- ==== Proof.Ffn.Out.lean ====
/- The output block of one grid point read back at an index. -/
module

public import proofs.«01_k».proof.Proof.Ffn.Gated

@[expose] public section

noncomputable section

namespace Cert.Ffn

open Cert.Kernel2Ideal Cert.Kernel2Ideal.Gen Idealize.ShloMosaic Idealize.SL.Sem
open Cert.Sgu (rms gelu)

/-- The down projection at an index. -/
theorem ypBlk_apply (a : Vec Ideal S512x2816 .bf16) (w : Vec Ideal S1x2816x1024 .bf16) (i : S512x1024.Idx) :
    ypBlk a w i = ∑ c, a (ix2 (i 0) c) * w (ix3 0 c (i 1)) := by
  unfold ypBlk; pointwise

/-- The row of the gated buffer that holds tile row `r`. -/
def rowTo (r : Fin 512) : Fin 512 := ⟨256 * (r.val % 2) + r.val / 2, by have := r.isLt; omega⟩

/-- The gated buffer holds every tile row. -/
theorem rowOf_rowTo (r : Fin 512) : rowOf (rowTo r) = r := by
  have := r.isLt
  refine Fin.ext ?_
  show 2 * ((256 * (r.val % 2) + r.val / 2) % 256) + (256 * (r.val % 2) + r.val / 2) / 256 = r.val
  omega

/-! ## The slabs of the down projection -/

/-- The slabs of the down projection at an index. -/
def ysAt (yp : FVec Ideal S512x1024 .f32) (y : S8x512x128.Idx) : EReal :=
  yp (ix2 (rowTo (y 1)) ⟨128 * (y 0).val + (y 2).val, by have : (y 0).val < 8 := (y 0).isLt; have : (y 2).val < 128 := (y 2).isLt; omega⟩)

/-- Which indices a store into the slabs of the down projection fills. -/
theorem mem_yRect (p : ℕ) (h : p < 16) (y : S8x512x128.Idx) (e : 2 * (y 0).val + (y 1).val % 2 = p) : y ∈ (yRect p h).set := by
  have h0 : (y 0).val < 8 := (y 0).isLt
  have h1 : (y 1).val < 512 := (y 1).isLt
  have h2 : (y 2).val < 128 := (y 2).isLt
  refine (LoadRect.mem_set (yRect p h).toLoadRect).mpr fun a => ?_
  match a with
  | ⟨0, _⟩ => exact ⟨0, by show 0 < 1; omega, by show (y 0).val = p / 2 + 1 * 0; omega⟩
  | ⟨1, _⟩ => exact ⟨(y 1).val / 2, by show (y 1).val / 2 < 256; omega, by show (y 1).val = p % 2 + 2 * ((y 1).val / 2); omega⟩
  | ⟨2, _⟩ => exact ⟨(y 2).val, h2, by show (y 2).val = 0 + 1 * (y 2).val; omega⟩

/-- Where an index of a store into the slabs of the down projection lies. -/
theorem emb_yRect (p : ℕ) (h : p < 16) (x : (yRect p h).shape.Idx) :
    (yRect p h).emb x = ix3 (⟨p / 2, by omega⟩ : Fin 8) (⟨p % 2 + 2 * (x 1).val, by have : (x 1).val < 256 := (x 1).isLt; omega⟩ : Fin 512) (x 2 : Fin 128) :=
  funext fun a => match a with
    | ⟨0, _⟩ => Fin.ext (by have : (x 0).val < 1 := (x 0).isLt; show p / 2 + 1 * (x 0).val = p / 2; omega)
    | ⟨1, _⟩ => rfl
    | ⟨2, _⟩ => Fin.ext (by show 0 + 1 * (x 2).val = (x 2).val; omega)

/-- A store into the slabs of the down projection at an index. -/
theorem quarter_apply (yp : FVec Ideal S512x1024 .f32) (n : ℕ) (h : n < 16) (x : S1x256x128.Idx) :
    (shapeCast S1x256x128 (extractStridedSlice S256x128 ![256 * (n % 2), 128 * (n / 2)] yp (sliceQuarter n h)) shapeCasts_S256x128_S1x256x128 : FVec Ideal S1x256x128 .f32) x
      = yp (ix2 ⟨256 * (n % 2) + (x 1).val, by have : (x 1).val < 256 := (x 1).isLt; omega⟩ ⟨128 * (n / 2) + (x 2).val, by have : (x 2).val < 128 := (x 2).isLt; omega⟩) := by
  pointwise

/-- The slabs of the down projection after their first `n` stores. -/
theorem yPieces_apply (yp : FVec Ideal S512x1024 .f32) : ∀ (n : ℕ) (h : n ≤ 16) (y : S8x512x128.Idx), 2 * (y 0).val + (y 1).val % 2 < n →
    View.canon (yPieces yp n h) y = ysAt yp y
  | 0, _, _, hy => absurd hy (by omega)
  | n + 1, h, y, hy => by
    rw [yPieces]
    refine canon_step (e := .f32) (ysAt yp) _ _ _ y (fun x => ?_) fun hc => ?_
    · have hx1 : (x 1).val < 256 := (x 1).isLt
      refine (quarter_apply yp n h x).trans ?_
      refine Eq.trans ?_ (congrArg (ysAt yp) (emb_yRect n h x)).symm
      unfold ysAt
      refine congrArg yp (congrArg₂ ix2 (Fin.ext ?_) rfl)
      show 256 * (n % 2) + (x 1).val = 256 * ((n % 2 + 2 * (x 1).val) % 2) + (n % 2 + 2 * (x 1).val) / 2
      omega
    · refine yPieces_apply yp n _ y ?_
      exact lt_of_le_of_ne (Nat.le_of_lt_succ hy) fun e => hc (mem_yRect n h y e)

/-- The slabs of the down projection, read back. -/
theorem yLoads_apply {sg : RefSig} (c14 : View sg .tc .vmem S8x512x128 .f32) (a : Vec Ideal S512x2816 .bf16) (Wd : Vec Ideal S1x2816x1024 .bf16)
    (l n : ℕ) (hl : l < 8) (h : n < 16) (u : Fin 32) (m : Fin 128) :
    (yLoads c14 (fun r => View.ld Wd r) a (sRect l n hl h) : Vec Ideal S1x32x128 .f32) (ix3 0 u m)
      = ∑ c, a (ix2 (rowTo ⟨32 * n + u.val, by have := u.isLt; omega⟩) c) * Wd (ix3 0 c ⟨128 * l + m.val, by have := m.isLt; omega⟩) := by
  have hu := u.isLt
  have hm := m.isLt
  unfold yLoads
  rw [View.readCov_eq_canon']
  dsimp only
  rw [View.ld_unit_lit' _ Wd (by decide)]
  have e : ((sRect l n hl h).toLoadRect.idx (ix3 0 u m) : S8x512x128.Idx) = ix3 (⟨l, hl⟩ : Fin 8) (⟨32 * n + u.val, by omega⟩ : Fin 512) m := funext fun a => match a with
    | ⟨0, _⟩ => Fin.ext (by show l + 1 * 0 = l; omega)
    | ⟨1, _⟩ => Fin.ext (by show 32 * n + 1 * u.val = 32 * n + u.val; omega)
    | ⟨2, _⟩ => Fin.ext (by show 0 + 1 * m.val = m.val; omega)
  refine (congrArg _ e).trans ?_
  refine (yPieces_apply _ 16 le_rfl _ (by show 2 * l + (32 * n + u.val) % 2 < 16; omega)).trans ?_
  exact ypBlk_apply _ _ _

/-! ## The output strips -/

/-- The sum of a strip at an index. -/
theorem sumStrip_apply (x : Vec Ideal S1x32x1024 .f32) (y : (l : ℕ) → l < 8 → Vec Ideal S1x32x128 .f32) (G : S32x1024.Idx → EReal)
    (hy : ∀ l (h : l < 8) (u : Fin 32) (m : Fin 128), y l h (ix3 0 u m) = G (ix2 u ⟨128 * l + m.val, by have := m.isLt; omega⟩)) (i : S32x1024.Idx) :
    sumStrip x y i = x (ix3 0 (i 0) (i 1)) + G i := by
  have hi : (i 1).val < 1024 := (i 1).isLt
  have key : ∀ l (h : l < 8) m (hm : m < 128), 128 * l + m = (i 1).val → y l h (ix3 0 (i 0) ⟨m, hm⟩) = G i := fun l h m hm e =>
    (hy l h (i 0) ⟨m, hm⟩).trans (congrArg G (funext fun a => match a with
      | ⟨0, _⟩ => rfl
      | ⟨1, _⟩ => Fin.ext e))
  unfold sumStrip
  pointwise
  refine congrArg (x (ix3 0 (i 0) (i 1)) + ·) ?_
  split
  · exact key 0 _ _ _ (by omega)
  split
  · exact key 1 _ _ _ (by omega)
  split
  · exact key 2 _ _ _ (by omega)
  split
  · exact key 3 _ _ _ (by omega)
  split
  · exact key 4 _ _ _ (by omega)
  split
  · exact key 5 _ _ _ (by omega)
  split
  · exact key 6 _ _ _ (by omega)
  · exact key 7 _ _ _ (by omega)

/-- A strip of the output at an index. -/
theorem outStrip_apply (x : Vec Ideal S1x32x1024 .f32) (y : (l : ℕ) → l < 8 → Vec Ideal S1x32x128 .f32) (fg : Vec Ideal S1x1024 .f32) (G : S32x1024.Idx → EReal)
    (hy : ∀ l (h : l < 8) (u : Fin 32) (m : Fin 128), y l h (ix3 0 u m) = G (ix2 u ⟨128 * l + m.val, by have := m.isLt; omega⟩)) (i : S1x32x1024.Idx) :
    outStrip x y fg i = rms (fun d => x (ix3 0 (i 1) d) + G (ix2 (i 1) d)) (fun d => fg (ix2 0 d)) (i 2) := by
  have e : sumStrip x y = fun i => x (ix3 0 (i 0) (i 1)) + G i := funext fun i => sumStrip_apply x y G hy i
  unfold outStrip
  rw [e]
  unfold normRows rms
  pointwise

section Out
variable (X : Vec Ideal S1x512x1024 .f32) (a : Vec Ideal S512x2816 .bf16) (Wd : Vec Ideal S1x2816x1024 .bf16) (fg : Vec Ideal S1x1024 .f32)

/-- The output block at an index, from the gated buffer. -/
def outAt (y : S1x512x1024.Idx) : EReal :=
  close (fun d => X (ix3 0 (y 1) d)) (fun c => a (ix2 (rowTo (y 1)) c)) (fun c d => Wd (ix3 0 c d)) (fun d => fg (ix2 0 d)) (y 2)

/-- Where an index of an output strip lies in the block. -/
theorem emb_xRect (n : ℕ) (h : n < 16) (x : (xRect n h).shape.Idx) :
    (xRect n h).emb x = ix3 (x 0 : Fin 1) (⟨32 * n + (x 1).val, by have : (x 1).val < 32 := (x 1).isLt; omega⟩ : Fin 512) (x 2 : Fin 1024) :=
  funext fun a => match a with
    | ⟨0, _⟩ => Fin.ext ((Rect.idx_unit_val _ _ _ x 0).trans (Nat.zero_add _))
    | ⟨1, _⟩ => Fin.ext (Rect.idx_unit_val _ _ _ x 1)
    | ⟨2, _⟩ => Fin.ext ((Rect.idx_unit_val _ _ _ x 2).trans (Nat.zero_add _))

/-- The output block after its first `n` strips. -/
theorem oPieces_apply {sg : RefSig} (c14 : View sg .tc .vmem S8x512x128 .f32) : ∀ (n : ℕ) (h : n ≤ 16) (y : S1x512x1024.Idx), (y 1).val < 32 * n →
    View.canon (oPieces (fun r => View.ld X r) (yLoads c14 (fun r => View.ld Wd r) a) fg n h) y = outAt X a Wd fg y
  | 0, _, y, hy => absurd hy (by omega)
  | n + 1, h, y, hy => by
    rw [oPieces]
    refine canon_step (e := .f32) (outAt X a Wd fg) _ _ _ y (fun x => ?_) fun hc => ?_
    · refine (outStrip_apply _ _ fg (fun i => ∑ c, a (ix2 (rowTo ⟨32 * n + (i 0).val, by have : (i 0).val < 32 := (i 0).isLt; omega⟩) c) * Wd (ix3 0 c (i 1)))
        (fun l hl u m => yLoads_apply c14 a Wd l n hl h u m) x).trans ?_
      refine Eq.trans ?_ (congrArg (outAt X a Wd fg) (emb_xRect n h x)).symm
      unfold outAt close
      have e : ∀ d : Fin 1024, (View.ld X (xRect n h) : Vec Ideal S1x32x1024 .f32) (ix3 0 (x 1) d) = X (ix3 0 (⟨32 * n + (x 1).val, by have : (x 1).val < 32 := (x 1).isLt; omega⟩ : Fin 512) d) :=
        fun d => congrArg X (funext fun a => match a with
          | ⟨0, _⟩ => rfl
          | ⟨1, _⟩ => Fin.ext (by show 32 * n + 1 * (x 1).val = 32 * n + (x 1).val; omega)
          | ⟨2, _⟩ => Fin.ext (by show 0 + 1 * d.val = d.val; omega))
      refine congrArg (fun f => rms f (fun d => fg (ix2 0 d)) (x 2)) (funext fun d => ?_)
      exact congrArg₂ (· + ·) (e d) rfl
    · refine oPieces_apply c14 n _ y ?_
      by_contra hc'
      refine hc (Rect.mem_set_unit.mpr fun a => ?_)
      match a with
      | ⟨0, _⟩ => exact ⟨Nat.zero_le _, by have : (y 0).val < 1 := (y 0).isLt; show (y 0).val < 0 + 1; omega⟩
      | ⟨1, _⟩ => exact ⟨by show 32 * n ≤ (y 1).val; omega, by show (y 1).val < 32 * n + 32; omega⟩
      | ⟨2, _⟩ => exact ⟨Nat.zero_le _, by have : (y 2).val < 1024 := (y 2).isLt; show (y 2).val < 0 + 1024; omega⟩

end Out

/-- The output block of a grid point, from the blocks it reads and the carry `K`. -/
theorem pointOut_apply {sg : RefSig} (c10 : View sg .tc .vmem S512x1024 .bf16) (c11 : View sg .tc .vmem S2x4x520x128 .f32) (c13 : View sg .tc .vmem S512x2816 .bf16) (c14 : View sg .tc .vmem S8x512x128 .f32)
    (X : Vec Ideal S1x512x1024 .f32) (g : Vec Ideal S1x1x1024 .f32) (W : Vec Ideal S1x1024x5632 .bf16) (cw : Vec Ideal S1x3x5632 .f32) (cb : Vec Ideal S1x1x5632 .f32) (Wd : Vec Ideal S1x2816x1024 .bf16) (fg : Vec Ideal S1x1024 .f32)
    (K : Vec Ideal S44x8x128 .f32) (k : (q : ℕ) → q < 44 → Vec Ideal S1x8x128 .f32) (hk : ∀ q h (x : S1x8x128.Idx), k q h x = K (ix3 (slabIx q h) (x 1) (x 2))) (r : Fin 512) (d : Fin 1024) :
    View.canon (pointOut c10 c11 c13 c14 (fun r => View.ld X r) (fun r => View.ld g r) (fun r => View.ld W r) (fun r => View.ld cw r) (fun r => View.ld cb r) (fun r => View.ld Wd r) (fun r => View.ld fg r) k) (ix3 0 r d)
      = close (fun d => X (ix3 0 r d)) (fun c => hid (hnAt X g) W K cb cw r c) (fun c d => Wd (ix3 0 c d)) (fun d => fg (ix2 0 d)) d := by
  unfold pointOut
  rw [hnOf_eq, actOf_eq (hnAt X g) W K k hk cb cw c11 c13]
  dsimp only
  rw [View.ld_unit_lit' _ fg (by decide)]
  refine (oPieces_apply X _ Wd fg c14 16 le_rfl (ix3 0 r d) r.isLt).trans ?_
  unfold outAt
  refine congrArg (fun a => close (fun d => X (ix3 0 r d)) a (fun c d => Wd (ix3 0 c d)) (fun d => fg (ix2 0 d)) d) (funext fun c => ?_)
  exact congrArg (fun r => hid (hnAt X g) W K cb cw r c) (rowOf_rowTo r)

end Cert.Ffn

end
-- ==== Proof.Ffn.Tile.lean ====
/- One grid point computes its 512 tokens of the layer, from its rows of the stream and the rows the tile before left. -/
module

public import proofs.«01_k».proof.Proof.Ffn.Out

@[expose] public section

noncomputable section

namespace Cert.Ffn

open Cert.Kernel2Ideal Cert.Kernel2Ideal.Gen Idealize.ShloMosaic Idealize.SL.Sem
open Cert.Sgu (rms gelu)

/-- The zero padding agrees at indices of equal value. -/
theorem padded_congr (z : Fin 16384 → EReal) (a b : Fin 16386) (h : a.val = b.val) : padded z a = padded z b := by
  rw [Fin.ext h]

/-- The padded sequence past its two zeros. -/
theorem padded_of_le (z : Fin 16384 → EReal) (a : Fin 16386) (T : Fin 16384) (h : T.val + 2 = a.val) : padded z a = z T := by
  unfold padded
  rw [dif_pos (by omega)]
  exact congrArg z (Fin.ext (by show a.val - 2 = T.val; omega))

/-- The padded sequence at its two zeros. -/
theorem padded_of_lt (z : Fin 16384 → EReal) (a : Fin 16386) (h : a.val < 2) : padded z a = 0 := by
  unfold padded
  rw [dif_neg (by omega)]

/-- Row `r` of tile `i`, as a token. -/
def tokOf (i : ℕ) (hi : i < 32) (r : Fin 512) : Fin 16384 := ⟨512 * i + r.val, by have := r.isLt; omega⟩

/-- Row `n` of the slabs of tile `i`, in the padded sequence. -/
def padIx (i : ℕ) (hi : i < 32) (n : Fin 8) : Fin 16386 := ⟨512 * i + n.val - 6, by have := n.isLt; omega⟩

/-- Row `n` of the carry at a column. -/
def carryIx (n : Fin 8) (c : Fin 5632) : S44x8x128.Idx :=
  ix3 (⟨c.val / 128, by have := c.isLt; omega⟩ : Fin 44) n (⟨c.val % 128, Nat.mod_lt _ (by decide)⟩ : Fin 128)

section Tile
variable (Xb : Vec Ideal S1x512x1024 .f32) (g : Vec Ideal S1x1x1024 .f32) (W : Vec Ideal S1x1024x5632 .bf16) (cw : Vec Ideal S1x3x5632 .f32) (cb : Vec Ideal S1x1x5632 .f32)
  (Wd : Vec Ideal S1x2816x1024 .bf16) (fg : Vec Ideal S1x1024 .f32)
  (X : Fin 16384 → Fin 1024 → EReal) (i : ℕ) (hi : i < 32) (hX : ∀ (r : Fin 512) k, Xb (ix3 0 r k) = X (tokOf i hi r) k)

/-- The up projection of the whole sequence. -/
def upSeq (T : Fin 16384) (c : Fin 5632) : EReal := up (rms (X T) (fun k => g (ix3 0 0 k))) (fun k c => W (ix3 0 k c)) c

include hX in
/-- A row of the tile's up projection is the sequence's. -/
theorem zAt_eq (r : Fin 512) (c : Fin 5632) (T : Fin 16384) (hT : T.val = 512 * i + r.val) : zAt (hnAt Xb g) W r c = upSeq g W X T c := by
  rw [show T = tokOf i hi r from Fin.ext hT]
  have e : (fun k => Xb (ix3 0 r k)) = X (tokOf i hi r) := funext fun k => hX r k
  unfold upSeq
  rw [← e]
  rfl

include hX in
/-- The last rows of the tile, by column. -/
theorem lastRows_eq (n : Fin 8) (c : Fin 5632) (T : Fin 16384) (hT : T.val = 512 * i + 504 + n.val) :
    lastRows (hnAt Xb g) W (carryIx n c) = upSeq g W X T c := by
  have hn := n.isLt
  refine (zAt_eq Xb g W X i hi hX _ _ T (by show T.val = 512 * i + (504 + n.val); omega)).trans (congrArg (upSeq g W X T) (Fin.ext ?_))
  show 128 * (c.val / 128) + c.val % 128 = c.val
  omega

variable (K : Vec Ideal S44x8x128 .f32)
  (hK : ∀ (n : Fin 8) (c : Fin 5632), 6 ≤ n.val → K (carryIx n c)
    = padded (fun T => upSeq g W X T c) (padIx i hi n))

include hX hK in
/-- A row of the slabs is a row of the padded sequence. -/
theorem tileAt_eq (n : Fin 520) (c : Fin 5632) (h : 6 ≤ n.val) (a : Fin 16386) (ha : a.val + 6 = 512 * i + n.val) :
    tileAt (hnAt Xb g) W K n c = padded (fun T => upSeq g W X T c) a := by
  have hn := n.isLt
  unfold tileAt
  by_cases h8 : n.val < 8
  · rw [dif_pos h8]
    exact (hK ⟨n.val, h8⟩ c h).trans (padded_congr _ _ _ (by show 512 * i + n.val - 6 = a.val; omega))
  · rw [dif_neg h8]
    have hT : 512 * i + (n.val - 8) < 16384 := by omega
    refine (zAt_eq Xb g W X i hi hX _ c ⟨512 * i + (n.val - 8), hT⟩ rfl).trans ?_
    exact (padded_of_le (fun T => upSeq g W X T c) a ⟨512 * i + (n.val - 8), hT⟩ (by show 512 * i + (n.val - 8) + 2 = a.val; omega)).symm

include hX hK in
/-- A convolution of the tile is the sequence's. -/
theorem convTile_eq (r : Fin 512) (c : Fin 5632) : convTile (hnAt Xb g) W K cb cw r c
    = convAt (fun T => upSeq g W X T c) (fun t => cw (ix3 0 t c)) (cb (ix3 0 0 c)) (tokOf i hi r) := by
  have hr := r.isLt
  unfold convTile convAt
  rw [tileAt_eq Xb g W X i hi hX K hK ⟨r.val + 6, by omega⟩ c (by show 6 ≤ r.val + 6; omega) ⟨512 * i + r.val, by omega⟩ (by show 512 * i + r.val + 6 = 512 * i + (r.val + 6); omega),
    tileAt_eq Xb g W X i hi hX K hK ⟨r.val + 7, by omega⟩ c (by show 6 ≤ r.val + 7; omega) ⟨512 * i + r.val + 1, by omega⟩ (by show 512 * i + r.val + 1 + 6 = 512 * i + (r.val + 7); omega),
    tileAt_eq Xb g W X i hi hX K hK ⟨r.val + 8, by omega⟩ c (by show 6 ≤ r.val + 8; omega) ⟨512 * i + r.val + 2, by omega⟩ (by show 512 * i + r.val + 2 + 6 = 512 * i + (r.val + 8); omega)]
  rfl

include hX hK in
/-- The tile's output row is the layer's. -/
theorem tile_layer (r : Fin 512) (d : Fin 1024) :
    close (fun d => Xb (ix3 0 r d)) (fun c => hid (hnAt Xb g) W K cb cw r c) (fun c d => Wd (ix3 0 c d)) (fun d => fg (ix2 0 d)) d
      = layer X (fun k => g (ix3 0 0 k)) (fun k c => W (ix3 0 k c)) (fun t c => cw (ix3 0 t c)) (fun c => cb (ix3 0 0 c)) (fun c d => Wd (ix3 0 c d)) (fun d => fg (ix2 0 d))
          (tokOf i hi r) d := by
  have e : (fun k => Xb (ix3 0 r k)) = X (tokOf i hi r) := funext fun k => hX r k
  have e' : (fun c => hid (hnAt Xb g) W K cb cw r c) = hidden X (fun k => g (ix3 0 0 k)) (fun k c => W (ix3 0 k c)) (fun t c => cw (ix3 0 t c)) (fun c => cb (ix3 0 0 c)) (tokOf i hi r) := by
    funext c
    unfold hid
    rw [convTile_eq Xb g W cw cb X i hi hX K hK, convTile_eq Xb g W cw cb X i hi hX K hK]
    rfl
  unfold layer
  rw [e, e']

end Tile

end Cert.Ffn

end
-- ==== Proof.Ffn.Host.lean ====
/- What the host hands the feed-forward kernel, each read at an index from the arguments. -/
module

public import proofs.«01_k».proof.Proof.Ffn.Spec
public import proofs.«01_k».proof.Proof.Gen.Kernel2Ideal.Value
public import Idealize.ShloMosaic.Lib.StableHlo.ReadAt

@[expose] public section

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The gains handed to the kernel. -/
theorem host_gain (j : S2x1x1024.Idx) : (V m c main_v0 : Vec Ideal S2x1x1024 .f32) j = m ((c : Thread nD τ).loc main_arg1) (ix2 (j 0) (j 2)) := by
  unfold V; after_reads_at

/-- The up projections handed to the kernel. -/
theorem host_up (j : S2x1024x5632.Idx) : (V m c main_v1 : Vec Ideal S2x1024x5632 .bf16) j = m ((c : Thread nD τ).loc main_arg2) j := by
  unfold V; after_reads_at

/-- The convolution biases handed to the kernel. -/
theorem host_cb (j : S2x1x5632.Idx) : (V m c main_v2 : Vec Ideal S2x1x5632 .f32) j = m ((c : Thread nD τ).loc main_arg4) (ix2 (j 0) (j 2)) := by
  unfold V; after_reads_at

/-- The down projections handed to the kernel. -/
theorem host_down (j : S2x2816x1024.Idx) : (V m c main_v3 : Vec Ideal S2x2816x1024 .bf16) j = m ((c : Thread nD τ).loc main_arg5) j := by
  unfold V; after_reads_at

/-- The final gain handed to the kernel. -/
theorem host_fg (j : S1x1024.Idx) : (V m c main_v4 : Vec Ideal S1x1024 .f32) j = m ((c : Thread nD τ).loc main_arg6) (ix1 (j 1)) := by
  unfold V; after_reads_at

end Cert.Ffn

end
-- ==== Proof.Ffn.PointA.lean ====
/- What the feed-forward kernel stores at the first tile of a sequence, where the carry is first zeroed. -/
module

public import proofs.«01_k».proof.Proof.Ffn.Block
public import proofs.«01_k».proof.Proof.Gen.Kernel2Ideal.Frame.RunA

@[expose] public section

noncomputable section

namespace Cert.Ffn

open Cert.Kernel2Ideal Cert.Kernel2Ideal.Gen Idealize.ShloMosaic Idealize.SL.Sem

variable {F : FTy → Type} [FloatOps F]

/-- The store that zeroes the carry. -/
def zeroCarry : List (View.Piece (Elt F) S44x8x128 .f32) :=
  [⟨Rect.unit ![0, 0, 0] S44x8x128.size inb_S44x8x128_S44x8x128_0_0_0, shapeCast S44x8x128 (broadcast S44x8x128 (Scalar.ofBits .f32 0x00000000#32)) shapeCasts_S44x8x128_S44x8x128⟩]

/-- The carried rows step `q` reads at the first tile of a sequence. -/
def carryA {sg : RefSig} (c10 : View sg .tc .vmem S512x1024 .bf16) (c12 : View sg .tc .vmem S44x8x128 .f32) (lx : Loads F S1x512x1024 .f32) (lg : Loads F S1x1x1024 .f32) (lw : Loads F S1x1024x5632 .bf16)
    (q : ℕ) (h : q < 44) : Vec F S1x8x128 .f32 :=
  c12.readCov (pointCarry c10 lx lg lw zeroCarry q (Nat.le_of_lt h)) (kRect q h).toLoadRect

set_option maxRecDepth 100000 in
set_option maxHeartbeats 4000000 in
/-- The kernel's stores into its output block at the first tile of a sequence. -/
theorem run_pieces_A (c : Dev nD) (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1024x5632 .bf16) (harg4 : arg4.IsWhole) (arg5 : Memref sig .tc .vmem S1x3x5632 .f32) (harg5 : arg5.IsWhole) (arg6 : Memref sig .tc .vmem S1x1x5632 .f32) (harg6 : arg6.IsWhole) (arg7 : Memref sig .tc .vmem S1x2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .bf16) (harg10 : arg10.IsWhole) (arg11 : Memref sig .tc .vmem S2x4x520x128 .f32) (harg11 : arg11.IsWhole) (arg12 : Memref sig .tc .vmem S44x8x128 .f32) (harg12 : arg12.IsWhole) (arg13 : Memref sig .tc .vmem S512x2816 .bf16) (harg13 : arg13.IsWhole) (arg14 : Memref sig .tc .vmem S8x512x128 .f32) (harg14 : arg14.IsWhole) (hc0 : cond0_0 i)
    (x0 : Vec F S1x512x1024 .f32) (x1 : Vec F S1x1x1024 .f32) (x2 : Vec F S1x1024x5632 .bf16) (x3 : Vec F S1x3x5632 .f32) (x4 : Vec F S1x1x5632 .f32) (x5 : Vec F S1x2816x1024 .bf16) (x6 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).1
      = pointOut arg10.view arg11.view arg13.view arg14.view (loadsOf arg2 harg2 x0) (loadsOf arg3 harg3 x1) (loadsOf arg4 harg4 x2) (loadsOf arg5 harg5 x3) (loadsOf arg6 harg6 x4) (loadsOf arg7 harg7 x5) (loadsOf arg8 harg8 x6)
          (carryA arg10.view arg12.view (loadsOf arg2 harg2 x0) (loadsOf arg3 harg3 x1) (loadsOf arg4 harg4 x2)) := by
  sl_kernel_rfl

set_option maxRecDepth 100000 in
set_option maxHeartbeats 4000000 in
/-- The kernel's stores into the carry at the first tile of a sequence. -/
theorem run_carry_A (c : Dev nD) (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1024x5632 .bf16) (harg4 : arg4.IsWhole) (arg5 : Memref sig .tc .vmem S1x3x5632 .f32) (harg5 : arg5.IsWhole) (arg6 : Memref sig .tc .vmem S1x1x5632 .f32) (harg6 : arg6.IsWhole) (arg7 : Memref sig .tc .vmem S1x2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .bf16) (harg10 : arg10.IsWhole) (arg11 : Memref sig .tc .vmem S2x4x520x128 .f32) (harg11 : arg11.IsWhole) (arg12 : Memref sig .tc .vmem S44x8x128 .f32) (harg12 : arg12.IsWhole) (arg13 : Memref sig .tc .vmem S512x2816 .bf16) (harg13 : arg13.IsWhole) (arg14 : Memref sig .tc .vmem S8x512x128 .f32) (harg14 : arg14.IsWhole) (hc0 : cond0_0 i)
    (x0 : Vec F S1x512x1024 .f32) (x1 : Vec F S1x1x1024 .f32) (x2 : Vec F S1x1024x5632 .bf16) (x3 : Vec F S1x3x5632 .f32) (x4 : Vec F S1x1x5632 .f32) (x5 : Vec F S1x2816x1024 .bf16) (x6 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.1
      = pointCarry arg10.view (loadsOf arg2 harg2 x0) (loadsOf arg3 harg3 x1) (loadsOf arg4 harg4 x2) zeroCarry 44 le_rfl := by
  sl_kernel_rfl

end Cert.Ffn

end
-- ==== Proof.Ffn.PointB.lean ====
/- What the feed-forward kernel stores at a later tile of a sequence, where the carry holds the last rows of the tile before. -/
module

public import proofs.«01_k».proof.Proof.Ffn.Block
public import proofs.«01_k».proof.Proof.Gen.Kernel2Ideal.Frame.RunB

@[expose] public section

noncomputable section

namespace Cert.Ffn

open Cert.Kernel2Ideal Cert.Kernel2Ideal.Gen Idealize.ShloMosaic Idealize.SL.Sem

variable {F : FTy → Type} [FloatOps F]

/-- The carried rows step `q` reads at a later tile of a sequence. -/
def carryB (lk : Loads F S44x8x128 .f32) (q : ℕ) (h : q < 44) : Vec F S1x8x128 .f32 :=
  lk (kRect q h)

set_option maxRecDepth 100000 in
set_option maxHeartbeats 4000000 in
/-- The kernel's stores into its output block at a later tile of a sequence. -/
theorem run_pieces_B (c : Dev nD) (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1024x5632 .bf16) (harg4 : arg4.IsWhole) (arg5 : Memref sig .tc .vmem S1x3x5632 .f32) (harg5 : arg5.IsWhole) (arg6 : Memref sig .tc .vmem S1x1x5632 .f32) (harg6 : arg6.IsWhole) (arg7 : Memref sig .tc .vmem S1x2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .bf16) (harg10 : arg10.IsWhole) (arg11 : Memref sig .tc .vmem S2x4x520x128 .f32) (harg11 : arg11.IsWhole) (arg12 : Memref sig .tc .vmem S44x8x128 .f32) (harg12 : arg12.IsWhole) (arg13 : Memref sig .tc .vmem S512x2816 .bf16) (harg13 : arg13.IsWhole) (arg14 : Memref sig .tc .vmem S8x512x128 .f32) (harg14 : arg14.IsWhole) (hc0 : ¬ cond0_0 i)
    (x0 : Vec F S1x512x1024 .f32) (x1 : Vec F S1x1x1024 .f32) (x2 : Vec F S1x1024x5632 .bf16) (x3 : Vec F S1x3x5632 .f32) (x4 : Vec F S1x1x5632 .f32) (x5 : Vec F S1x2816x1024 .bf16) (x6 : Vec F S1x1024 .f32) (xs2 : Vec F S44x8x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs2).1
      = pointOut arg10.view arg11.view arg13.view arg14.view (loadsOf arg2 harg2 x0) (loadsOf arg3 harg3 x1) (loadsOf arg4 harg4 x2) (loadsOf arg5 harg5 x3) (loadsOf arg6 harg6 x4) (loadsOf arg7 harg7 x5) (loadsOf arg8 harg8 x6)
          (carryB (loadsOf arg12 harg12 xs2)) := by
  sl_kernel_rfl

set_option maxRecDepth 100000 in
set_option maxHeartbeats 4000000 in
/-- The kernel's stores into the carry at a later tile of a sequence. -/
theorem run_carry_B (c : Dev nD) (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1024x5632 .bf16) (harg4 : arg4.IsWhole) (arg5 : Memref sig .tc .vmem S1x3x5632 .f32) (harg5 : arg5.IsWhole) (arg6 : Memref sig .tc .vmem S1x1x5632 .f32) (harg6 : arg6.IsWhole) (arg7 : Memref sig .tc .vmem S1x2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .bf16) (harg10 : arg10.IsWhole) (arg11 : Memref sig .tc .vmem S2x4x520x128 .f32) (harg11 : arg11.IsWhole) (arg12 : Memref sig .tc .vmem S44x8x128 .f32) (harg12 : arg12.IsWhole) (arg13 : Memref sig .tc .vmem S512x2816 .bf16) (harg13 : arg13.IsWhole) (arg14 : Memref sig .tc .vmem S8x512x128 .f32) (harg14 : arg14.IsWhole) (hc0 : ¬ cond0_0 i)
    (x0 : Vec F S1x512x1024 .f32) (x1 : Vec F S1x1x1024 .f32) (x2 : Vec F S1x1024x5632 .bf16) (x3 : Vec F S1x3x5632 .f32) (x4 : Vec F S1x1x5632 .f32) (x5 : Vec F S1x2816x1024 .bf16) (x6 : Vec F S1x1024 .f32) (xs2 : Vec F S44x8x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs2).2.1
      = pointCarry arg10.view (loadsOf arg2 harg2 x0) (loadsOf arg3 harg3 x1) (loadsOf arg4 harg4 x2) [] 44 le_rfl := by
  sl_kernel_rfl

end Cert.Ffn

end
-- ==== Proof.Ffn.Array.lean ====
/- What the feed-forward kernel's output array holds at the end: the layer, computed from the arguments. -/
module

public import proofs.«01_k».proof.Proof.Ffn.Tile
public import proofs.«01_k».proof.Proof.Ffn.Host
public import proofs.«01_k».proof.Proof.Ffn.PointA
public import proofs.«01_k».proof.Proof.Ffn.PointB
public import Idealize.ShloMosaic.Lib.Pipeline.ValueKit.Geometry

@[expose] public section

noncomputable section

namespace Cert.Ffn

open Cert.Kernel2Ideal Cert.Kernel2Ideal.Gen Idealize.ShloMosaic Idealize.ShloMosaic.TcCoe Idealize.SL.Sem
open Cert.Sgu (rms gelu)

variable (m : (ℓ : Loc nD τ sig) → Buf (Elt Ideal) ℓ) (c : Dev nD)

/-- The layer of the kernel's arguments. -/
def result (y : S2x16384x1024.Idx) : EReal :=
  layer (fun T k => m ((c : Thread nD τ).loc main_arg0) (ix3 (y 0) T k)) (fun k => m ((c : Thread nD τ).loc main_arg1) (ix2 1 k))
    (fun k c' => m ((c : Thread nD τ).loc main_arg2) (ix3 1 k c')) (fun k c' => m ((c : Thread nD τ).loc main_arg3) (ix3 1 k c'))
    (fun c' => m ((c : Thread nD τ).loc main_arg4) (ix2 1 c')) (fun c' d => m ((c : Thread nD τ).loc main_arg5) (ix3 1 c' d))
    (fun d => m ((c : Thread nD τ).loc main_arg6) (ix1 d)) (y 1) (y 2)

/-! ## The blocks a point reads -/

/-- The stream's block at a point: the point's 512 tokens. -/
theorem blk_x (t : Fin cfg0.N) (y : S1x512x1024.Idx) : iblk m c 0 t y
    = m ((c : Thread nD τ).loc main_arg0) (ix3 (⟨(grid0.coords t 0).val, (grid0.coords t 0).isLt⟩ : Fin 2)
        (⟨512 * (grid0.coords t 1).val + (y 1).val, by have h : (grid0.coords t 1).val < 32 := (grid0.coords t 1).isLt; have h' : (y 1).val < 512 := (y 1).isLt; omega⟩ : Fin 16384) (y 2)) := by
  have e : ∀ t : Fin cfg0.N, win0_0.index t = ![(grid0.coords t 0).val, (grid0.coords t 1).val, 0] := by decide +kernel
  blk_ext [iblk, V_main_arg0, e t]

/-- The gain's block. -/
theorem blk_g (t : Fin cfg0.N) (k : Fin 1024) : iblk m c 1 t (ix3 0 0 k) = m ((c : Thread nD τ).loc main_arg1) (ix2 1 k) := by
  have e : ∀ t : Fin cfg0.N, win0_1.index t = ![1, 0, 0] := by decide +kernel
  trans V m c main_v0 (ix3 1 0 k)
  · blk_ext [iblk, e t]
  · exact host_gain m c (ix3 1 0 k)

/-- The up projection's block. -/
theorem blk_up (t : Fin cfg0.N) (k : Fin 1024) (c' : Fin 5632) : iblk m c 2 t (ix3 0 k c') = m ((c : Thread nD τ).loc main_arg2) (ix3 1 k c') := by
  have e : ∀ t : Fin cfg0.N, win0_2.index t = ![1, 0, 0] := by decide +kernel
  trans V m c main_v1 (ix3 1 k c')
  · blk_ext [iblk, e t]
  · exact host_up m c (ix3 1 k c')

/-- The convolution weights' block. -/
theorem blk_cw (t : Fin cfg0.N) (k : Fin 3) (c' : Fin 5632) : iblk m c 3 t (ix3 0 k c') = m ((c : Thread nD τ).loc main_arg3) (ix3 1 k c') := by
  have e : ∀ t : Fin cfg0.N, win0_3.index t = ![1, 0, 0] := by decide +kernel
  blk_ext [iblk, V_main_arg3, e t]

/-- The convolution bias's block. -/
theorem blk_cb (t : Fin cfg0.N) (c' : Fin 5632) : iblk m c 4 t (ix3 0 0 c') = m ((c : Thread nD τ).loc main_arg4) (ix2 1 c') := by
  have e : ∀ t : Fin cfg0.N, win0_4.index t = ![1, 0, 0] := by decide +kernel
  trans V m c main_v2 (ix3 1 0 c')
  · blk_ext [iblk, e t]
  · exact host_cb m c (ix3 1 0 c')

/-- The down projection's block. -/
theorem blk_down (t : Fin cfg0.N) (c' : Fin 2816) (d : Fin 1024) : iblk m c 5 t (ix3 0 c' d) = m ((c : Thread nD τ).loc main_arg5) (ix3 1 c' d) := by
  have e : ∀ t : Fin cfg0.N, win0_5.index t = ![1, 0, 0] := by decide +kernel
  trans V m c main_v3 (ix3 1 c' d)
  · blk_ext [iblk, e t]
  · exact host_down m c (ix3 1 c' d)

/-- The final gain's block. -/
theorem blk_fg (t : Fin cfg0.N) (d : Fin 1024) : iblk m c 6 t (ix2 0 d) = m ((c : Thread nD τ).loc main_arg6) (ix1 d) := by
  have e : ∀ t : Fin cfg0.N, win0_6.index t = ![0, 0] := by decide +kernel
  trans V m c main_v4 (ix2 0 d)
  · blk_ext [iblk, e t]
  · exact host_fg m c (ix2 0 d)

/-! ## The carry -/

/-- The carried rows at the first tile of a sequence are zero. -/
theorem carryA_apply {sg : RefSig} (c10 : View sg .tc .vmem S512x1024 .bf16) (c12 : View sg .tc .vmem S44x8x128 .f32) (X : Vec Ideal S1x512x1024 .f32) (g : Vec Ideal S1x1x1024 .f32) (W : Vec Ideal S1x1024x5632 .bf16)
    (q : ℕ) (h : q < 44) (x : S1x8x128.Idx) : carryA c10 c12 (fun r => View.ld X r) (fun r => View.ld g r) (fun r => View.ld W r) q h x = 0 := by
  have hx : (x 0).val < 1 := (x 0).isLt
  unfold carryA pointCarry
  rw [View.readCov_eq_canon']
  refine (kPieces_skip _ _ q _ _ fun q' hq' e => ?_).trans ?_
  · have e' : slab q + 1 * (x 0).val = slab q' := e
    have := slab_inj q q' h (by omega) (by omega)
    omega
  · unfold zeroCarry
    rw [View.canon_cons_unit_lit']
    · pointwise
    all_goals decide

/-- The carried rows at a later tile are what the carry holds. -/
theorem carryB_apply (K : Vec Ideal S44x8x128 .f32) (q : ℕ) (h : q < 44) (x : S1x8x128.Idx) :
    carryB (fun r => View.ld K r) q h x = K (ix3 (slabIx q h) (x 1) (x 2)) :=
  congrArg K (emb_kRect q h x)

/-- What a point leaves in the carry: its last rows. -/
theorem carry_after (t : Fin cfg0.N) : (outsAt0 m c t.val t.isLt).2 = lastRows (hnAt (iblk m c 0 t) (iblk m c 1 t)) (iblk m c 2 t) := by
  by_cases h0 : t.val % 32 = 0
  · rw [outsAt0_A m c t h0]
    dsimp only
    unfold sout0_A_2
    rw [run_carry_A, View.read_writes_junk_eq_canon]
    simp only [loadsOf_eq]
    unfold pointCarry
    rw [hnOf_eq]
    exact carry_eq _ _ _
  · rw [outsAt0_B m c t h0]
    dsimp only
    unfold sout0_B_2
    rw [run_carry_B, View.read_writes_junk_eq_canon]
    simp only [loadsOf_eq]
    unfold pointCarry
    rw [hnOf_eq]
    exact carry_eq _ _ _

/-! ## The output block -/

/-- The grid's coordinates. -/
theorem coords_eq : ∀ t : Fin cfg0.N, (grid0.coords t 0).val = t.val / 32 ∧ (grid0.coords t 1).val = t.val % 32 := by decide +kernel

/-- The sequence a point works on. -/
def seqOf (t : Fin cfg0.N) (T : Fin 16384) (k : Fin 1024) : EReal :=
  m ((c : Thread nD τ).loc main_arg0) (ix3 (⟨(grid0.coords t 0).val, (grid0.coords t 0).isLt⟩ : Fin 2) T k)

/-- What a point computes is the layer at its tokens, when the carry it reads holds the padded sequence's rows. -/
theorem point_layer (t : Fin cfg0.N) (hi : (grid0.coords t 1).val < 32) (K : Vec Ideal S44x8x128 .f32)
    (hK : ∀ (n : Fin 8) (c' : Fin 5632), 6 ≤ n.val → K (carryIx n c')
      = padded (fun T => upSeq (iblk m c 1 t) (iblk m c 2 t) (seqOf m c t) T c') (padIx (grid0.coords t 1).val hi n)) (r : Fin 512) (d : Fin 1024) :
    close (fun d => iblk m c 0 t (ix3 0 r d)) (fun c' => hid (hnAt (iblk m c 0 t) (iblk m c 1 t)) (iblk m c 2 t) K (iblk m c 4 t) (iblk m c 3 t) r c') (fun c' d => iblk m c 5 t (ix3 0 c' d)) (fun d => iblk m c 6 t (ix2 0 d)) d
      = result m c (ix3 (⟨(grid0.coords t 0).val, (grid0.coords t 0).isLt⟩ : Fin 2) (tokOf (grid0.coords t 1).val hi r) d) := by
  refine (tile_layer (iblk m c 0 t) (iblk m c 1 t) (iblk m c 2 t) (iblk m c 3 t) (iblk m c 4 t) (iblk m c 5 t) (iblk m c 6 t) (seqOf m c t) (grid0.coords t 1).val hi
    (fun r k => blk_x m c t (ix3 0 r k)) K hK r d).trans ?_
  have h1 : (fun k => (iblk m c 1 t (ix3 0 0 k) : EReal)) = fun k => m ((c : Thread nD τ).loc main_arg1) (ix2 1 k) := funext fun k => blk_g m c t k
  have h2 : (fun (k : Fin 1024) (c' : Fin 5632) => (iblk m c 2 t (ix3 0 k c') : EReal)) = fun k c' => m ((c : Thread nD τ).loc main_arg2) (ix3 1 k c') := funext fun k => funext fun c' => blk_up m c t k c'
  have h3 : (fun (k : Fin 3) (c' : Fin 5632) => (iblk m c 3 t (ix3 0 k c') : EReal)) = fun k c' => m ((c : Thread nD τ).loc main_arg3) (ix3 1 k c') := funext fun k => funext fun c' => blk_cw m c t k c'
  have h4 : (fun (c' : Fin 5632) => (iblk m c 4 t (ix3 0 0 c') : EReal)) = fun c' => m ((c : Thread nD τ).loc main_arg4) (ix2 1 c') := funext fun c' => blk_cb m c t c'
  have h5 : (fun (c' : Fin 2816) (d : Fin 1024) => (iblk m c 5 t (ix3 0 c' d) : EReal)) = fun c' d => m ((c : Thread nD τ).loc main_arg5) (ix3 1 c' d) := funext fun c' => funext fun d => blk_down m c t c' d
  have h6 : (fun (d : Fin 1024) => (iblk m c 6 t (ix2 0 d) : EReal)) = fun d => m ((c : Thread nD τ).loc main_arg6) (ix1 d) := funext fun d => blk_fg m c t d
  unfold result
  rw [h1, h2, h3, h4, h5, h6]
  rfl

/-- The up projection of a sequence does not change from one tile of it to the next. -/
theorem upSeq_prev (t s : Fin cfg0.N) (h : (grid0.coords s 0).val = (grid0.coords t 0).val) (T : Fin 16384) (c' : Fin 5632) :
    upSeq (iblk m c 1 s) (iblk m c 2 s) (seqOf m c s) T c' = upSeq (iblk m c 1 t) (iblk m c 2 t) (seqOf m c t) T c' := by
  have e : seqOf m c s = seqOf m c t := by
    funext T k
    exact congrArg (fun n => m ((c : Thread nD τ).loc main_arg0) (ix3 n T k)) (Fin.ext h)
  unfold upSeq
  rw [e]
  refine congrArg₂ (fun g W => up (rms (seqOf m c t T) g) W c') (funext fun k => ?_) (funext fun k => funext fun c'' => ?_)
  · exact (blk_g m c s k).trans (blk_g m c t k).symm
  · exact (blk_up m c s k c'').trans (blk_up m c t k c'').symm

/-- The output block a point leaves: the layer at the point's tokens. -/
theorem block_eq (t : Fin cfg0.N) (y : S1x512x1024.Idx) : (outsAt0 m c t.val t.isLt).1 y
    = result m c (ix3 (⟨(grid0.coords t 0).val, (grid0.coords t 0).isLt⟩ : Fin 2)
        (⟨512 * (grid0.coords t 1).val + (y 1).val, by have h : (grid0.coords t 1).val < 32 := (grid0.coords t 1).isLt; have h' : (y 1).val < 512 := (y 1).isLt; omega⟩ : Fin 16384) (y 2)) := by
  obtain ⟨r, d, rfl⟩ : ∃ (r : Fin 512) (d : Fin 1024), y = ix3 (0 : Fin 1) r d := by
    refine ⟨y 1, y 2, funext fun a => ?_⟩
    fin_cases a
    · exact Subsingleton.elim (α := Fin 1) _ _
    · rfl
    · rfl
  have hi : (grid0.coords t 1).val < 32 := (grid0.coords t 1).isLt
  obtain ⟨ec0, ec1⟩ := coords_eq t
  by_cases h0 : t.val % 32 = 0
  · rw [outsAt0_A m c t h0]
    dsimp only
    unfold out0_A_7
    rw [run_pieces_A, View.read_writes_junk_eq_canon]
    simp only [loadsOf_eq]
    refine (pointOut_apply _ _ _ _ (iblk m c 0 t) (iblk m c 1 t) (iblk m c 2 t) (iblk m c 3 t) (iblk m c 4 t) (iblk m c 5 t) (iblk m c 6 t) (fun _ => 0) _
      (fun q h x => carryA_apply _ _ _ _ _ q h x) r d).trans ?_
    refine point_layer m c t hi (fun _ => 0) (fun n c' hn => ?_) r d
    exact (padded_of_lt _ _ (by have := n.isLt; show 512 * (grid0.coords t 1).val + n.val - 6 < 2; omega)).symm
  · have hs : t.val - 1 < cfg0.N := Nat.lt_of_le_of_lt (Nat.sub_le _ _) t.isLt
    obtain ⟨es0, es1⟩ := coords_eq ⟨t.val - 1, hs⟩
    have hi' : (grid0.coords ⟨t.val - 1, hs⟩ 1).val < 32 := (grid0.coords ⟨t.val - 1, hs⟩ 1).isLt
    have es0' : (grid0.coords ⟨t.val - 1, hs⟩ 0).val = (grid0.coords t 0).val := by
      rw [es0, ec0]; show (t.val - 1) / 32 = t.val / 32; omega
    have es1' : (grid0.coords ⟨t.val - 1, hs⟩ 1).val + 1 = (grid0.coords t 1).val := by
      rw [es1, ec1]; show (t.val - 1) % 32 + 1 = t.val % 32; omega
    rw [outsAt0_B m c t h0]
    dsimp only
    unfold out0_B_7
    rw [run_pieces_B, View.read_writes_junk_eq_canon]
    simp only [loadsOf_eq]
    refine (pointOut_apply _ _ _ _ (iblk m c 0 t) (iblk m c 1 t) (iblk m c 2 t) (iblk m c 3 t) (iblk m c 4 t) (iblk m c 5 t) (iblk m c 6 t) _ _
      (fun q h x => carryB_apply _ q h x) r d).trans ?_
    refine point_layer m c t hi _ (fun n c' hn => ?_) r d
    have hn' := n.isLt
    have hT : 512 * (grid0.coords t 1).val + n.val - 8 < 16384 := by omega
    refine (congrFun (carry_after m c ⟨t.val - 1, hs⟩) _).trans ?_
    refine (lastRows_eq (iblk m c 0 ⟨t.val - 1, hs⟩) (iblk m c 1 ⟨t.val - 1, hs⟩) (iblk m c 2 ⟨t.val - 1, hs⟩) (seqOf m c ⟨t.val - 1, hs⟩) (grid0.coords ⟨t.val - 1, hs⟩ 1).val hi'
      (fun r k => blk_x m c ⟨t.val - 1, hs⟩ (ix3 0 r k)) n c' ⟨512 * (grid0.coords t 1).val + n.val - 8, hT⟩ ?_).trans ?_
    · show 512 * (grid0.coords t 1).val + n.val - 8 = _; omega
    · refine (upSeq_prev m c t ⟨t.val - 1, hs⟩ es0' _ c').trans ?_
      exact (padded_of_le (fun T => upSeq (iblk m c 1 t) (iblk m c 2 t) (seqOf m c t) T c') _ ⟨512 * (grid0.coords t 1).val + n.val - 8, hT⟩
        (by show 512 * (grid0.coords t 1).val + n.val - 8 + 2 = 512 * (grid0.coords t 1).val + n.val - 6; omega)).symm

/-- The kernel's output array at the end. -/
theorem array_eq : (dats m 0 c).arrAt 7 cfg0.N = result m c := by
  have e : ∀ t : Fin cfg0.N, win0_7.index t = ![(grid0.coords t 0).val, (grid0.coords t 1).val, 0] := by decide +kernel
  refine (dats m 0 c).arrAt_eq_of_covers 7 _ (by decide +kernel) fun t hf y => ?_
  blk_simp
  rw [after0_7]
  refine (block_eq m c t y).trans ?_
  blk_ext [e t]

end Cert.Ffn

end
-- ==== Proof.Ffn.Ref.lean ====
/- What the reference computes, read at an index one stage at a time: the layer of `Spec.lean`. -/
module

public import proofs.«01_k».proof.Proof.Ffn.Spec
public import proofs.«01_k».proof.Proof.Gen.Reference2Ideal.Read

@[expose] public section

noncomputable section

namespace Cert.Ffn.Ref

open Cert.Reference2Ideal Cert.Reference2Ideal.Read Idealize.ShloMosaic Idealize.ShloMosaic.TcCoe Idealize.SL.Sem Cert.Sgu

variable (x0 : (⟨S2x16384x1024, .f32⟩ : BufTy).Contents (Elt Ideal)) (x1 : (⟨S2x1024, .f32⟩ : BufTy).Contents (Elt Ideal)) (x2 : (⟨S2x1024x5632, .f32⟩ : BufTy).Contents (Elt Ideal)) (x3 : (⟨S2x3x5632, .f32⟩ : BufTy).Contents (Elt Ideal)) (x4 : (⟨S2x5632, .f32⟩ : BufTy).Contents (Elt Ideal)) (x5 : (⟨S2x2816x1024, .f32⟩ : BufTy).Contents (Elt Ideal)) (x6 : (⟨S1024, .f32⟩ : BufTy).Contents (Elt Ideal))

/-- The normalised row of token `T` of sequence `n`. -/
def rowN (n : Fin 2) (T : Fin 16384) : Fin 1024 → EReal := rms (fun k => x0 (ix3 n T k)) (fun k => x1 (ix2 1 k))

/-- The reference's normalised rows. -/
theorem norm_apply (i : S2x16384x1024.Idx) : val_main_v14 (F := Ideal) x0 x1 i = rowN x0 x1 (i 0) (i 1) (i 2) := by
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 rowN rms
  pointwise

/-- The up projection of token `T` of sequence `n`. -/
def rowZ (n : Fin 2) (c : Fin 5632) (T : Fin 16384) : EReal := up (rowN x0 x1 n T) (fun k c => x2 (ix3 1 k c)) c

/-- The reference's up projection with two zero rows in front. -/
theorem padded_apply (i : S2x16386x5632.Idx) : val_main_v24 (F := Ideal) x0 x1 x2 i = padded (rowZ x0 x1 x2 (i 0) (i 2)) (i 1) := by
  have h : ∀ n T k, val_main_v14 (F := Ideal) x0 x1 (ix3 n T k) = rowN x0 x1 n T k := fun n T k => norm_apply x0 x1 _
  unfold rowZ up padded
  unfold val_main_v24 val_main_v23 val_main_v16 val_main_v15 val_main_call0_v0 val_main_c
  generalize val_main_v14 (F := Ideal) x0 x1 = hn at h ⊢
  pointwise
  have hi : (i 1).val < 16386 := (i 1).isLt
  have h0 : (FloatOps.sitofp (F := Ideal) FTy.f32 (0#32) : EReal) = 0 := by
    show (((BitVec.toInt (0#32) : ℝ)) : EReal) = 0
    simp
  by_cases p : 2 ≤ (i 1).val
  · rw [dif_pos p, dif_pos ⟨p, by omega⟩]
    exact Finset.sum_congr rfl fun k _ => congrArg₂ (· * ·) (h _ _ _) rfl
  · rw [dif_neg p, dif_neg fun q => p q.1]
    exact h0

/-- The convolution of column `c` at token `T` of sequence `n`. -/
def rowC (n : Fin 2) (c : Fin 5632) (T : Fin 16384) : EReal := convAt (rowZ x0 x1 x2 n c) (fun k => x3 (ix3 1 k c)) (x4 (ix2 1 c)) T

/-- The reference's convolution. -/
theorem conv_apply (i : S2x16384x5632.Idx) : val_main_v49 (F := Ideal) x0 x1 x2 x3 x4 i = rowC x0 x1 x2 x3 x4 (i 0) (i 2) (i 1) := by
  have h : ∀ T, val_main_v24 (F := Ideal) x0 x1 x2 (ix3 (i 0) T (i 2)) = padded (rowZ x0 x1 x2 (i 0) (i 2)) T := fun T => padded_apply x0 x1 x2 _
  unfold rowC convAt conv
  unfold val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v20 val_main_v19 val_main_v18 val_main_v17 val_main_cst_2
  generalize val_main_v24 (F := Ideal) x0 x1 x2 = z at h ⊢
  pointwise
  have e : ∀ T T' : Fin 16386, T.val = T'.val → z (ix3 (i 0) T (i 2)) = padded (rowZ x0 x1 x2 (i 0) (i 2)) T' := by
    rintro T T' q
    exact (h T).trans (by rw [Fin.ext q])
  refine (add_comm _ _).trans ?_
  simp only [add_assoc]
  exact congrArg₂ (· + ·) rfl (congrArg₂ (· + ·) (congrArg₂ (· * ·) (e _ _ rfl) rfl)
    (congrArg₂ (· + ·) (congrArg₂ (· * ·) (e _ _ (Nat.add_comm _ _)) rfl) (congrArg₂ (· * ·) (e _ _ (Nat.add_comm _ _)) rfl)))

/-- The reference's hidden rows. -/
theorem hidden_apply (i : S2x16384x2816.Idx) : val_main_v65 (F := Ideal) x0 x1 x2 x3 x4 i
    = gelu (rowC x0 x1 x2 x3 x4 (i 0) (uCol (i 2)) (i 1)) * rowC x0 x1 x2 x3 x4 (i 0) (vCol (i 2)) (i 1) := by
  have h : ∀ c, val_main_v49 (F := Ideal) x0 x1 x2 x3 x4 (ix3 (i 0) (i 1) c) = rowC x0 x1 x2 x3 x4 (i 0) c (i 1) := fun c => conv_apply x0 x1 x2 x3 x4 _
  unfold gelu Cert.Ffn.uCol Cert.Ffn.vCol
  unfold val_main_v65 val_main_v64 val_main_v63 val_main_v62 val_main_v61 val_main_v60 val_main_v59 val_main_v58 val_main_v57 val_main_v56 val_main_v55 val_main_v54 val_main_v53 val_main_v52 val_main_v51 val_main_v50 val_main_cst_3 val_main_cst_4 val_main_cst_5 val_main_cst_6
  generalize val_main_v49 (F := Ideal) x0 x1 x2 x3 x4 = z at h ⊢
  pointwise
  simp only [h]

/-- The reference's sum of the stream and the down projection, at a token. -/
theorem sum_apply (n : Fin 2) (T : Fin 16384) (d : Fin 1024) : val_main_v67 (F := Ideal) x0 x1 x2 x3 x4 x5 (ix3 n T d)
    = x0 (ix3 n T d) + ∑ c, hidden (fun T k => x0 (ix3 n T k)) (fun k => x1 (ix2 1 k)) (fun k c => x2 (ix3 1 k c)) (fun k c => x3 (ix3 1 k c)) (fun c => x4 (ix2 1 c)) T c * x5 (ix3 1 c d) := by
  have h : ∀ c, val_main_v65 (F := Ideal) x0 x1 x2 x3 x4 (ix3 n T c) = hidden (fun T k => x0 (ix3 n T k)) (fun k => x1 (ix2 1 k)) (fun k c => x2 (ix3 1 k c)) (fun k c => x3 (ix3 1 k c)) (fun c => x4 (ix2 1 c)) T c := fun c => hidden_apply x0 x1 x2 x3 x4 _
  unfold val_main_v67 val_main_v66 val_main_v22 val_main_v21
  generalize val_main_v65 (F := Ideal) x0 x1 x2 x3 x4 = y at h ⊢
  pointwise
  simp only [h]

/-- The reference's result at an index. -/
theorem result_apply (n : Fin 2) (T : Fin 16384) (d : Fin 1024) : val_main_v80 (F := Ideal) x0 x1 x2 x3 x4 x5 x6 (ix3 n T d)
    = layer (fun T k => x0 (ix3 n T k)) (fun k => x1 (ix2 1 k)) (fun k c => x2 (ix3 1 k c)) (fun k c => x3 (ix3 1 k c)) (fun c => x4 (ix2 1 c))
        (fun c d => x5 (ix3 1 c d)) (fun d => x6 (ix1 d)) T d := by
  have h := sum_apply x0 x1 x2 x3 x4 x5 n T
  unfold layer close rms
  unfold val_main_v80 val_main_v79 val_main_v78 val_main_v77 val_main_v76 val_main_v75 val_main_v74 val_main_v73 val_main_v72 val_main_v71 val_main_v70 val_main_v69 val_main_v68 val_main_cst_7 val_main_cst_8 val_main_cst_9
  generalize val_main_v67 (F := Ideal) x0 x1 x2 x3 x4 x5 = y at h ⊢
  pointwise
  simp only [h]

end Cert.Ffn.Ref

end
-- ==== Proof.Ffn0.Block.lean ====
/- What one grid point of layer 0's feed-forward kernel computes, as vector functions of the blocks it loads, on top of
   `Ffn/Block.lean`: the output projection of the mixers laid out as slabs of 128 lanes, its sum with the input strips,
   which the output block holds until the feed-forward is added to it. -/
module

public import proofs.«01_k».proof.Proof.Ffn.Block
public import proofs.«01_k».proof.Proof.Gen.Kernel3Ideal

@[expose] public section

noncomputable section

namespace Cert.Ffn0

open Cert.Kernel2Ideal Cert.Kernel2Ideal.Gen Idealize.ShloMosaic Idealize.SL.Sem Cert.Ffn
open Cert.Kernel3Ideal (S1x512x512 S512x512 S1024x1024 S1536x1024)

variable {F : FTy → Type} [FloatOps F]

/-! ## The output projection of the mixers -/

/-- A whole slab of the projection. -/
abbrev mRect (l : ℕ) (h : l < 8) : Rect S8x512x128 :=
  Rect.unit ![l, 0, 0] Cert.Kernel3Ideal.S1x512x128.size fun a => match a with
    | ⟨0, _⟩ => by show l + 1 ≤ 8; omega
    | ⟨1, _⟩ => by show 0 + 512 ≤ 512; omega
    | ⟨2, _⟩ => by show 0 + 128 ≤ 128; omega

/-- The rows of the projection that the first mixer's output meets. -/
abbrev waRect : Rect S1536x1024 := Rect.unit ![0, 0] S1024x1024.size Cert.Kernel3Ideal.Gen.inb_S1536x1024_S1024x1024_0_0

/-- The rows of the projection that the second mixer's output meets. -/
abbrev wbRect : Rect S1536x1024 := Rect.unit ![1024, 0] S512x1024.size Cert.Kernel3Ideal.Gen.inb_S1536x1024_S512x1024_1024_0

/-- The output projection of the two mixers' rows. -/
def mixBlk (a : Vec F S1x512x1024 .bf16) (wa : Vec F S1024x1024 .bf16) (b : Vec F S1x512x512 .bf16) (wb : Vec F S512x1024 .bf16) : FVec F S512x1024 .f32 :=
  addf
    (matmul Cert.Kernel3Ideal.dot_S512x1024_S1024x1024_S512x1024_1_0_0_1_n_n none (shapeCast S512x1024 a Cert.Kernel3Ideal.Gen.shapeCasts_S1x512x1024_S512x1024)
      (shapeCast S1024x1024 wa Cert.Kernel3Ideal.Gen.shapeCasts_S1024x1024_S1024x1024) (constant S512x1024 .f32 0x00000000#32))
    (matmul Cert.Kernel3Ideal.dot_S512x512_S512x1024_S512x1024_1_0_0_1_n_n none (shapeCast S512x512 b Cert.Kernel3Ideal.Gen.shapeCasts_S1x512x512_S512x512)
      (shapeCast S512x1024 wb Cert.Kernel3Ideal.Gen.shapeCasts_S512x1024_S512x1024) (constant S512x1024 .f32 0x00000000#32))

/-- 128 lanes of the projection are a slice. -/
theorem sliceSlab (l : ℕ) (h : l < 8) : S512x1024.Slices ![0, 128 * l] S512x128 :=
  ⟨rfl, fun a => match a with
    | ⟨0, _⟩ => by show 0 + 512 ≤ 512; omega
    | ⟨1, _⟩ => by show 128 * l + 128 ≤ 1024; omega⟩

/-- The first `n` stores of the projection into the slabs, the last first. -/
def mPieces (mx : FVec F S512x1024 .f32) : (n : ℕ) → n ≤ 8 → List (View.Piece (Elt F) S8x512x128 .f32)
  | 0, _ => []
  | n + 1, h => ⟨mRect n h, shapeCast Cert.Kernel3Ideal.S1x512x128 (extractStridedSlice S512x128 ![0, 128 * n] mx (sliceSlab n h)) Cert.Kernel3Ideal.Gen.shapeCasts_S512x128_S1x512x128⟩
      :: mPieces mx n (Nat.le_of_succ_le h)

/-! ## The strips -/

/-- The RMS norm of 32 rows of the sum, with its gain. -/
def normSum (x : Vec F S1x32x1024 .f32) (y : (l : ℕ) → l < 8 → Vec F S1x32x128 .f32) (g : Vec F S1x1x1024 .f32) : FVec F S32x1024 .bf16 :=
  shapeCast S32x1024 (truncf .bf16 (normRows (sumStrip x y) (shapeCast S1x1024 g shapeCasts_S1x1x1024_S1x1024)) bitsLt_bf16_f32 : FVec F S32x1024 .bf16) shapeCasts_S32x1024_S32x1024

/-- The first `n` stores into the normalised buffer, the last first. -/
def hPieces (lx : Loads F S1x512x1024 .f32) (ly : Loads F S8x512x128 .f32) (g : Vec F S1x1x1024 .f32) : (n : ℕ) → n ≤ 16 → List (View.Piece (Elt F) S512x1024 .bf16)
  | 0, _ => []
  | n + 1, h => ⟨hRect n h, normSum (lx (xRect n h)) (fun l hl => ly (sRect l n hl h)) g⟩ :: hPieces lx ly g n (Nat.le_of_succ_le h)

/-- The sum of 32 rows, as the output block holds it. -/
def keepStrip (x : Vec F S1x32x1024 .f32) (y : (l : ℕ) → l < 8 → Vec F S1x32x128 .f32) : FVec F S1x32x1024 .f32 :=
  shapeCast S1x32x1024 (sumStrip x y) shapeCasts_S32x1024_S1x32x1024

/-- The first `n` stores of the sum into the output block, the last first. -/
def xPieces (lx : Loads F S1x512x1024 .f32) (ly : Loads F S8x512x128 .f32) : (n : ℕ) → n ≤ 16 → List (View.Piece (Elt F) S1x512x1024 .f32)
  | 0, _ => []
  | n + 1, h => ⟨xRect n h, keepStrip (lx (xRect n h)) (fun l hl => ly (sRect l n hl h))⟩ :: xPieces lx ly n (Nat.le_of_succ_le h)

/-- The first `n` stores of the result into the output block, the last first, on top of the stores `L`: each adds to what
    the block holds. -/
def oPieces {sg : RefSig} (c12 : View sg .tc .vmem S1x512x1024 .f32) (ly : Loads F S8x512x128 .f32) (L : List (View.Piece (Elt F) S1x512x1024 .f32)) : (n : ℕ) → n ≤ 16 → List (View.Piece (Elt F) S1x512x1024 .f32)
  | 0, _ => L
  | n + 1, h => ⟨xRect n h, keepStrip (c12.readCov (oPieces c12 ly L n (Nat.le_of_succ_le h)) (xRect n h).toLoadRect) (fun l hl => ly (sRect l n hl h))⟩
      :: oPieces c12 ly L n (Nat.le_of_succ_le h)

/-! ## The whole point -/

section Point
variable {sg : RefSig} (c12 : View sg .tc .vmem S1x512x1024 .f32) (c13 : View sg .tc .vmem S512x1024 .bf16) (c14 : View sg .tc .vmem S2x4x520x128 .f32) (c16 : View sg .tc .vmem S512x2816 .bf16) (c17 : View sg .tc .vmem S8x512x128 .f32)
  (lx : Loads F S1x512x1024 .f32) (la : Loads F S1x512x1024 .bf16) (lb : Loads F S1x512x512 .bf16) (lm : Loads F S1536x1024 .bf16)
  (lg : Loads F S1x1x1024 .f32) (lw : Loads F S1x1024x5632 .bf16) (lc : Loads F S1x3x5632 .f32) (ls : Loads F S1x1x5632 .f32) (ld : Loads F S1x2816x1024 .bf16)

/-- The stores of the projection into the slabs. -/
def mixPieces : List (View.Piece (Elt F) S8x512x128 .f32) :=
  mPieces (mixBlk (la (Rect.unit ![0, 0, 0] S1x512x1024.size Cert.Kernel3Ideal.Gen.inb_S1x512x1024_S1x512x1024_0_0_0)) (lm waRect)
    (lb (Rect.unit ![0, 0, 0] S1x512x512.size Cert.Kernel3Ideal.Gen.inb_S1x512x512_S1x512x512_0_0_0)) (lm wbRect)) 8 le_rfl

/-- The slabs of the projection, read back. -/
def mixLoads : Loads F S8x512x128 .f32 := fun r => c17.readCov (mixPieces la lb lm) r.toLoadRect

/-- The normalised rows, read back. -/
def hnOf : Vec F S512x1024 .bf16 :=
  c13.readCov (hPieces lx (mixLoads c17 la lb lm) (lg (Rect.unit ![0, 0, 0] S1x1x1024.size inb_S1x1x1024_S1x1x1024_0_0_0)) 16 le_rfl) (Rect.unit ![0, 0] S512x1024.size inb_S512x1024_S512x1024_0_0).toLoadRect

/-- The slabs of the down projection, read back. -/
def yLoads (a : Vec F S512x2816 .bf16) : Loads F S8x512x128 .f32 := fun r =>
  c17.readCov (yPieces (ypBlk a (ld (Rect.unit ![0, 0, 0] S1x2816x1024.size inb_S1x2816x1024_S1x2816x1024_0_0_0))) 16 le_rfl ++ mixPieces la lb lm) r.toLoadRect

/-- The stores of a grid point into its output block, from the carried rows `k` it reads. -/
def pointOut (k : (q : ℕ) → q < 44 → Vec F S1x8x128 .f32) : List (View.Piece (Elt F) S1x512x1024 .f32) :=
  oPieces c12 (yLoads c17 la lb lm ld (actOf c14 c16 lw lc ls (hnOf c13 c17 lx la lb lm lg) k)) (xPieces lx (mixLoads c17 la lb lm) 16 le_rfl) 16 le_rfl

/-- The stores of a grid point into the carry, on top of the stores `L`. -/
def pointCarry (L : List (View.Piece (Elt F) S44x8x128 .f32)) (n : ℕ) (h : n ≤ 44) : List (View.Piece (Elt F) S44x8x128 .f32) :=
  kPieces (zOf (hnOf c13 c17 lx la lb lm lg) lw) L n h

end Point

end Cert.Ffn0

end
-- ==== Proof.Ffn0.Spec.lean ====
/- The feed-forward of layer 0 on one sequence of token rows, as plain functions on the extended reals: the output
   projection of the mixers added to the input, then the feed-forward of `Ffn/Spec.lean` without a final norm. -/
module

public import proofs.«01_k».proof.Proof.Ffn.Spec

@[expose] public section

noncomputable section

namespace Cert.Ffn0

open Idealize.ShloMosaic Cert.Ffn

/-- One column of the output projection of a token's retention row and attention row. -/
def mix (a : Fin 1024 → EReal) (b : Fin 512 → EReal) (Wm : Fin 1536 → Fin 1024 → EReal) (d : Fin 1024) : EReal :=
  (∑ k : Fin 1024, a k * Wm ⟨k.val, by have := k.isLt; omega⟩ d) + ∑ k : Fin 512, b k * Wm ⟨1024 + k.val, by have := k.isLt; omega⟩ d

/-- The stream after the mixers of layer 0. -/
def stream (x : Fin 16384 → Fin 1024 → EReal) (a : Fin 16384 → Fin 1024 → EReal) (b : Fin 16384 → Fin 512 → EReal) (Wm : Fin 1536 → Fin 1024 → EReal)
    (T : Fin 16384) (d : Fin 1024) : EReal := x T d + mix (a T) (b T) Wm d

/-- The feed-forward of a stream `X` with its residual, at token `T` and column `d`. -/
def layer (X : Fin 16384 → Fin 1024 → EReal) (g : Fin 1024 → EReal) (W : Fin 1024 → Fin 5632 → EReal) (cw : Fin 3 → Fin 5632 → EReal)
    (cb : Fin 5632 → EReal) (Wd : Fin 2816 → Fin 1024 → EReal) (T : Fin 16384) (d : Fin 1024) : EReal :=
  X T d + ∑ c, hidden X g W cw cb T c * Wd c d

end Cert.Ffn0

end
-- ==== Proof.Ffn0.Pieces.lean ====
/- The stores of one grid point of layer 0's feed-forward read back at an index: the projection of the mixers, the sum, the
   normalised rows and the output block. -/
module

public import proofs.«01_k».proof.Proof.Ffn0.Block
public import proofs.«01_k».proof.Proof.Ffn0.Spec
public import proofs.«01_k».proof.Proof.Ffn.Out

@[expose] public section

noncomputable section

namespace Cert.Ffn0

open Cert.Kernel2Ideal Cert.Kernel2Ideal.Gen Idealize.ShloMosaic Idealize.SL.Sem Cert.Ffn
open Cert.Kernel3Ideal (S1x512x512 S512x512 S1024x1024 S1536x1024)
open Cert.Sgu (rms gelu)

/-! ## The output projection of the mixers -/

/-- The projection at an index. -/
theorem mixBlk_apply (a : Vec Ideal S1x512x1024 .bf16) (wa : Vec Ideal S1024x1024 .bf16) (b : Vec Ideal S1x512x512 .bf16) (wb : Vec Ideal S512x1024 .bf16) (i : S512x1024.Idx) :
    mixBlk a wa b wb i = (∑ k, a (ix3 0 (i 0) k) * wa (ix2 k (i 1))) + ∑ k, b (ix3 0 (i 0) k) * wb (ix2 k (i 1)) := by
  unfold mixBlk; pointwise

section Mix
variable (A : Vec Ideal S1x512x1024 .bf16) (B : Vec Ideal S1x512x512 .bf16) (Wm : Vec Ideal S1536x1024 .bf16)

/-- The projection of row `r` at column `d`. -/
def mixAt (r : Fin 512) (d : Fin 1024) : EReal := mix (fun k => A (ix3 0 r k)) (fun k => B (ix3 0 r k)) (fun k d => Wm (ix2 k d)) d

/-- The projection from the kernel's loads, at an index. -/
theorem mixBlk_loads (r : Fin 512) (d : Fin 1024) : mixBlk A (View.ld Wm waRect) B (View.ld Wm wbRect) (ix2 r d) = mixAt A B Wm r d := by
  refine (mixBlk_apply _ _ _ _ _).trans ?_
  unfold mixAt mix
  refine congrArg₂ (· + ·) (Finset.sum_congr rfl fun k _ => congrArg (A (ix3 0 r k) * ·) ?_) (Finset.sum_congr rfl fun k _ => congrArg (B (ix3 0 r k) * ·) ?_)
  · exact congrArg Wm (funext fun a => match a with
      | ⟨0, _⟩ => Fin.ext (by show 0 + 1 * k.val = k.val; omega)
      | ⟨1, _⟩ => Fin.ext (by show 0 + 1 * d.val = d.val; omega))
  · exact congrArg Wm (funext fun a => match a with
      | ⟨0, _⟩ => Fin.ext (by show 1024 + 1 * k.val = 1024 + k.val; omega)
      | ⟨1, _⟩ => Fin.ext (by show 0 + 1 * d.val = d.val; omega))

/-- Where an index of a whole slab lies. -/
theorem emb_mRect (l : ℕ) (h : l < 8) (x : (mRect l h).shape.Idx) :
    (mRect l h).emb x = ix3 (⟨l, h⟩ : Fin 8) (x 1 : Fin 512) (x 2 : Fin 128) :=
  funext fun a => match a with
    | ⟨0, _⟩ => Fin.ext ((Rect.idx_unit_val _ _ _ x 0).trans (by have : (x 0).val < 1 := (x 0).isLt; show l + (x 0).val = l; omega))
    | ⟨1, _⟩ => Fin.ext ((Rect.idx_unit_val _ _ _ x 1).trans (Nat.zero_add _))
    | ⟨2, _⟩ => Fin.ext ((Rect.idx_unit_val _ _ _ x 2).trans (Nat.zero_add _))

/-- A whole slab at an index. -/
theorem slab_apply (mx : FVec Ideal S512x1024 .f32) (n : ℕ) (h : n < 8) (x : Cert.Kernel3Ideal.S1x512x128.Idx) :
    (shapeCast Cert.Kernel3Ideal.S1x512x128 (extractStridedSlice S512x128 ![0, 128 * n] mx (sliceSlab n h)) Cert.Kernel3Ideal.Gen.shapeCasts_S512x128_S1x512x128 : FVec Ideal Cert.Kernel3Ideal.S1x512x128 .f32) x
      = mx (ix2 (x 1) ⟨128 * n + (x 2).val, by have : (x 2).val < 128 := (x 2).isLt; omega⟩) := by
  pointwise

/-- The slabs of a block, at an index. -/
def slabsAt (mx : FVec Ideal S512x1024 .f32) (y : S8x512x128.Idx) : EReal :=
  mx (ix2 (y 1) ⟨128 * (y 0).val + (y 2).val, by have : (y 0).val < 8 := (y 0).isLt; have : (y 2).val < 128 := (y 2).isLt; omega⟩)

/-- The slabs after their first `n` stores. -/
theorem mPieces_apply (mx : FVec Ideal S512x1024 .f32) : ∀ (n : ℕ) (h : n ≤ 8) (y : S8x512x128.Idx), (y 0).val < n →
    View.canon (mPieces mx n h) y = slabsAt mx y
  | 0, _, _, hy => absurd hy (by omega)
  | n + 1, h, y, hy => by
    rw [mPieces]
    refine canon_step (e := .f32) (slabsAt mx) _ _ _ y (fun x => ?_) fun hc => ?_
    · exact (slab_apply mx n h x).trans (congrArg (slabsAt mx) (emb_mRect n h x)).symm
    · refine mPieces_apply mx n _ y ?_
      by_contra hc'
      refine hc (Rect.mem_set_unit.mpr fun a => ?_)
      match a with
      | ⟨0, _⟩ => exact ⟨by show n ≤ (y 0).val; omega, by show (y 0).val < n + 1; omega⟩
      | ⟨1, _⟩ => exact ⟨Nat.zero_le _, by have : (y 1).val < 512 := (y 1).isLt; show (y 1).val < 0 + 512; omega⟩
      | ⟨2, _⟩ => exact ⟨Nat.zero_le _, by have : (y 2).val < 128 := (y 2).isLt; show (y 2).val < 0 + 128; omega⟩

/-- The stores of the projection, from the blocks that are loaded. -/
theorem mixPieces_eq : mixPieces (fun r => View.ld A r) (fun r => View.ld B r) (fun r => View.ld Wm r)
    = mPieces (mixBlk A (View.ld Wm waRect) B (View.ld Wm wbRect)) 8 le_rfl := by
  unfold mixPieces
  dsimp only
  rw [View.ld_unit_lit' _ A (by decide), View.ld_unit_lit' _ B (by decide)]

/-- Where an index of 32 rows of a slab lies. -/
theorem idx_sRect (l n : ℕ) (hl : l < 8) (h : n < 16) (u : Fin 32) (m : Fin 128) :
    ((sRect l n hl h).toLoadRect.idx (ix3 0 u m) : S8x512x128.Idx) = ix3 (⟨l, hl⟩ : Fin 8) (⟨32 * n + u.val, by have := u.isLt; omega⟩ : Fin 512) m :=
  funext fun a => match a with
    | ⟨0, _⟩ => Fin.ext (by show l + 1 * 0 = l; omega)
    | ⟨1, _⟩ => Fin.ext (by show 32 * n + 1 * u.val = 32 * n + u.val; omega)
    | ⟨2, _⟩ => Fin.ext (by show 0 + 1 * m.val = m.val; omega)

/-- Row `u` of strip `n`. -/
def rowIx (n : ℕ) (h : n < 16) (u : Fin 32) : Fin 512 := ⟨32 * n + u.val, by have := u.isLt; omega⟩

/-- Lane `m` of slab `l`, as a column. -/
def laneIx (l : ℕ) (h : l < 8) (m : Fin 128) : Fin 1024 := ⟨128 * l + m.val, by have := m.isLt; omega⟩

/-- The slabs of the projection, read back. -/
theorem mixLoads_apply {sg : RefSig} (c17 : View sg .tc .vmem S8x512x128 .f32) (l n : ℕ) (hl : l < 8) (h : n < 16) (u : Fin 32) (m : Fin 128) :
    (mixLoads c17 (fun r => View.ld A r) (fun r => View.ld B r) (fun r => View.ld Wm r) (sRect l n hl h) : Vec Ideal S1x32x128 .f32) (ix3 0 u m)
      = mixAt A B Wm (rowIx n h u) (laneIx l hl m) := by
  unfold mixLoads
  rw [View.readCov_eq_canon', mixPieces_eq]
  refine (congrArg _ (idx_sRect l n hl h u m)).trans ?_
  refine (mPieces_apply _ 8 le_rfl _ hl).trans ?_
  exact mixBlk_loads A B Wm _ _

/-! ## The sum and the normalised rows -/

/-- A strip of the sum at an index. -/
theorem keepStrip_apply (x : Vec Ideal S1x32x1024 .f32) (y : (l : ℕ) → l < 8 → Vec Ideal S1x32x128 .f32) (G : S32x1024.Idx → EReal)
    (hy : ∀ l (h : l < 8) (u : Fin 32) (m : Fin 128), y l h (ix3 0 u m) = G (ix2 u (laneIx l h m))) (i : S1x32x1024.Idx) :
    keepStrip x y i = x (ix3 0 (i 1) (i 2)) + G (ix2 (i 1) (i 2)) := by
  have e : sumStrip x y = fun i => x (ix3 0 (i 0) (i 1)) + G i := funext fun i => sumStrip_apply x y G hy i
  unfold keepStrip
  rw [e]
  pointwise

/-- A strip of the normalised sum at an index. -/
theorem normSum_apply (x : Vec Ideal S1x32x1024 .f32) (y : (l : ℕ) → l < 8 → Vec Ideal S1x32x128 .f32) (g : Vec Ideal S1x1x1024 .f32) (G : S32x1024.Idx → EReal)
    (hy : ∀ l (h : l < 8) (u : Fin 32) (m : Fin 128), y l h (ix3 0 u m) = G (ix2 u (laneIx l h m))) (i : S32x1024.Idx) :
    normSum x y g i = rms (fun k => x (ix3 0 (i 0) k) + G (ix2 (i 0) k)) (fun k => g (ix3 0 0 k)) (i 1) := by
  have e : sumStrip x y = fun i => x (ix3 0 (i 0) (i 1)) + G i := funext fun i => sumStrip_apply x y G hy i
  unfold normSum
  rw [e]
  unfold normRows rms
  pointwise

variable (X : Vec Ideal S1x512x1024 .f32)

/-- The sum of the input block and the projection, as a block. -/
def sumAt (y : S1x512x1024.Idx) : EReal := X (ix3 0 (y 1) (y 2)) + mixAt A B Wm (y 1) (y 2)

/-- A strip of the input block at an index. -/
theorem ld_xRect (n : ℕ) (h : n < 16) (u : Fin 32) (k : Fin 1024) : (View.ld X (xRect n h) : Vec Ideal S1x32x1024 .f32) (ix3 0 u k) = X (ix3 0 (rowIx n h u) k) :=
  congrArg X (funext fun a => match a with
    | ⟨0, _⟩ => rfl
    | ⟨1, _⟩ => Fin.ext (by show 32 * n + 1 * u.val = 32 * n + u.val; omega)
    | ⟨2, _⟩ => Fin.ext (by show 0 + 1 * k.val = k.val; omega))

/-- Which rows a strip of the block fills. -/
theorem mem_xRect (n : ℕ) (h : n < 16) (y : S1x512x1024.Idx) : y ∈ (xRect n h).set ↔ 32 * n ≤ (y 1).val ∧ (y 1).val < 32 * n + 32 := by
  have h0 : (y 0).val < 1 := (y 0).isLt
  have h2 : (y 2).val < 1024 := (y 2).isLt
  constructor
  · intro hm
    exact Rect.mem_set_unit.mp hm 1
  · intro he
    refine Rect.mem_set_unit.mpr fun a => ?_
    match a with
    | ⟨0, _⟩ => exact ⟨Nat.zero_le _, by show (y 0).val < 0 + 1; omega⟩
    | ⟨1, _⟩ => exact he
    | ⟨2, _⟩ => exact ⟨Nat.zero_le _, by show (y 2).val < 0 + 1024; omega⟩

section Loads
variable (ly : Loads Ideal S8x512x128 .f32) (M : Fin 512 → Fin 1024 → EReal)
  (hy : ∀ l n hl h (u : Fin 32) (m : Fin 128), (ly (sRect l n hl h) : Vec Ideal S1x32x128 .f32) (ix3 0 u m) = M (rowIx n h u) (laneIx l hl m))

include hy in
/-- The normalised rows after their first `n` strips. -/
theorem hPieces_apply (g : Vec Ideal S1x1x1024 .f32) : ∀ (n : ℕ) (h : n ≤ 16) (y : S512x1024.Idx), (y 0).val < 32 * n →
    View.canon (hPieces (fun r => View.ld X r) ly g n h) y = hnAt (fun y => X (ix3 0 (y 1) (y 2)) + M (y 1) (y 2)) g y
  | 0, _, y, hn => absurd hn (by omega)
  | n + 1, h, y, hn => by
    rw [hPieces]
    refine canon_step (e := .bf16) (hnAt (fun y => X (ix3 0 (y 1) (y 2)) + M (y 1) (y 2)) g) _ _ _ y (fun x => ?_) fun hc => ?_
    · refine (normSum_apply _ _ g (fun i => M (rowIx n h (i 0)) (i 1)) (fun l hl u m => hy l n hl h u m) x).trans ?_
      refine Eq.trans ?_ (congrArg (hnAt (fun y => X (ix3 0 (y 1) (y 2)) + M (y 1) (y 2)) g) (emb_hRect n h x)).symm
      unfold hnAt
      refine congrArg (fun f => rms f (fun k => g (ix3 0 0 k)) (x 1)) (funext fun k => ?_)
      exact congrArg₂ (· + ·) (ld_xRect X n h (x 0) k) rfl
    · refine hPieces_apply g n _ y ?_
      by_contra hc'
      refine hc (Rect.mem_set_unit.mpr fun a => ?_)
      match a with
      | ⟨0, _⟩ => exact ⟨by show 32 * n ≤ (y 0).val; omega, by show (y 0).val < 32 * n + 32; omega⟩
      | ⟨1, _⟩ => exact ⟨Nat.zero_le _, by have : (y 1).val < 1024 := (y 1).isLt; show (y 1).val < 0 + 1024; omega⟩

include hy in
/-- The output block after its first `n` strips of the sum. -/
theorem xPieces_apply : ∀ (n : ℕ) (h : n ≤ 16) (y : S1x512x1024.Idx), (y 1).val < 32 * n →
    View.canon (xPieces (fun r => View.ld X r) ly n h) y = X (ix3 0 (y 1) (y 2)) + M (y 1) (y 2)
  | 0, _, y, hn => absurd hn (by omega)
  | n + 1, h, y, hn => by
    rw [xPieces]
    refine canon_step (e := .f32) (fun y => X (ix3 0 (y 1) (y 2)) + M (y 1) (y 2)) _ _ _ y (fun x => ?_) fun hc => ?_
    · refine (keepStrip_apply _ _ (fun i => M (rowIx n h (i 0)) (i 1)) (fun l hl u m => hy l n hl h u m) x).trans ?_
      refine Eq.trans ?_ (congrArg (fun y : S1x512x1024.Idx => (X (ix3 0 (y 1) (y 2)) + M (y 1) (y 2) : EReal)) (emb_xRect n h x)).symm
      exact congrArg₂ (· + ·) (ld_xRect X n h (x 1) (x 2)) rfl
    · refine xPieces_apply n _ y ?_
      by_contra hc'
      exact hc ((mem_xRect n h y).mpr (by omega))

variable {sg : RefSig} (c12 : View sg .tc .vmem S1x512x1024 .f32) (L : List (View.Piece (Elt Ideal) S1x512x1024 .f32))

/-- The output block below the strips of the result that are stored. -/
theorem oPieces_skip : ∀ (n : ℕ) (h : n ≤ 16) (y : S1x512x1024.Idx), 32 * n ≤ (y 1).val → View.canon (oPieces c12 ly L n h) y = View.canon L y
  | 0, _, _, _ => by rw [oPieces]
  | n + 1, h, y, hn => by
    rw [oPieces]
    refine (canon_skip (e := .f32) _ _ _ y fun hm => ?_).trans (oPieces_skip n _ y (by omega))
    have := (mem_xRect n h y).mp hm
    omega

include hy in
/-- The output block after the first `n` strips of the result: what it held, plus the rows added. -/
theorem oPieces_apply : ∀ (n : ℕ) (h : n ≤ 16) (y : S1x512x1024.Idx), (y 1).val < 32 * n →
    View.canon (oPieces c12 ly L n h) y = View.canon L y + M (y 1) (y 2)
  | 0, _, y, hn => absurd hn (by omega)
  | n + 1, h, y, hn => by
    rw [oPieces]
    refine canon_step (e := .f32) (fun y => (View.canon L y + M (y 1) (y 2) : EReal)) _ _ _ y (fun x => ?_) fun hc => ?_
    · refine (keepStrip_apply _ _ (fun i => M (rowIx n h (i 0)) (i 1)) (fun l hl u m => hy l n hl h u m) x).trans ?_
      refine Eq.trans ?_ (congrArg (fun y : S1x512x1024.Idx => (View.canon L y + M (y 1) (y 2) : EReal)) (emb_xRect n h x)).symm
      refine congrArg₂ (· + ·) ?_ rfl
      rw [View.readCov_eq_canon']
      have e : ((xRect n h).toLoadRect.idx (ix3 0 (x 1) (x 2)) : S1x512x1024.Idx) = ix3 (x 0 : Fin 1) (rowIx n h (x 1)) (x 2 : Fin 1024) := funext fun a => match a with
        | ⟨0, _⟩ => Subsingleton.elim (α := Fin 1) _ _
        | ⟨1, _⟩ => Fin.ext (by show 32 * n + 1 * (x 1).val = 32 * n + (x 1).val; omega)
        | ⟨2, _⟩ => Fin.ext (by show 0 + 1 * (x 2).val = (x 2).val; omega)
      refine (congrArg _ e).trans ?_
      exact oPieces_skip ly c12 L n _ _ (Nat.le_add_right _ _)
    · refine oPieces_apply n _ y ?_
      by_contra hc'
      exact hc ((mem_xRect n h y).mpr (by omega))

end Loads

/-- The whole buffer of normalised rows. -/
theorem hnOf_eq {sg : RefSig} (c13 : View sg .tc .vmem S512x1024 .bf16) (c17 : View sg .tc .vmem S8x512x128 .f32) (g : Vec Ideal S1x1x1024 .f32) :
    hnOf c13 c17 (fun r => View.ld X r) (fun r => View.ld A r) (fun r => View.ld B r) (fun r => View.ld Wm r) (fun r => View.ld g r) = hnAt (sumAt A B Wm X) g := by
  unfold hnOf
  rw [View.readCov_eq_canon']
  dsimp only
  rw [View.ld_unit_lit' _ g (by decide)]
  funext y
  have e : (Rect.unit ![0, 0] S512x1024.size inb_S512x1024_S512x1024_0_0).toLoadRect.idx y = y :=
    funext fun a => Fin.ext ((Rect.idx_unit_val _ _ _ y a).trans (by fin_cases a <;> exact Nat.zero_add _))
  rw [e]
  exact hPieces_apply X _ (mixAt A B Wm) (fun l n hl h u m => mixLoads_apply A B Wm c17 l n hl h u m) g 16 le_rfl y (y 0).isLt

end Mix

end Cert.Ffn0

end
-- ==== Proof.Ffn0.Out.lean ====
/- The output block of one grid point of layer 0's feed-forward read back at an index, and the layer it belongs to. -/
module

public import proofs.«01_k».proof.Proof.Ffn0.Pieces
public import proofs.«01_k».proof.Proof.Ffn.Tile

@[expose] public section

noncomputable section

namespace Cert.Ffn0

open Cert.Kernel2Ideal Cert.Kernel2Ideal.Gen Idealize.ShloMosaic Idealize.SL.Sem Cert.Ffn
open Cert.Kernel3Ideal (S1x512x512 S512x512 S1024x1024 S1536x1024)
open Cert.Sgu (rms gelu)

/-- The slabs of the down projection after their first `n` stores, whatever was there before. -/
theorem yPieces_apply (yp : FVec Ideal S512x1024 .f32) (L : List (View.Piece (Elt Ideal) S8x512x128 .f32)) : ∀ (n : ℕ) (h : n ≤ 16) (y : S8x512x128.Idx), 2 * (y 0).val + (y 1).val % 2 < n →
    View.canon (yPieces yp n h ++ L) y = ysAt yp y
  | 0, _, _, hy => absurd hy (by omega)
  | n + 1, h, y, hy => by
    rw [yPieces, List.cons_append]
    refine canon_step (e := .f32) (ysAt yp) _ _ _ y (fun x => ?_) fun hc => ?_
    · have hx1 : (x 1).val < 256 := (x 1).isLt
      refine (quarter_apply yp n h x).trans ?_
      refine Eq.trans ?_ (congrArg (ysAt yp) (emb_yRect n h x)).symm
      unfold ysAt
      refine congrArg yp (congrArg₂ ix2 (Fin.ext ?_) rfl)
      show 256 * (n % 2) + (x 1).val = 256 * ((n % 2 + 2 * (x 1).val) % 2) + (n % 2 + 2 * (x 1).val) / 2
      omega
    · refine yPieces_apply yp L n _ y ?_
      exact lt_of_le_of_ne (Nat.le_of_lt_succ hy) fun e => hc (mem_yRect n h y e)

section Out
variable (X : Vec Ideal S1x512x1024 .f32) (A : Vec Ideal S1x512x1024 .bf16) (B : Vec Ideal S1x512x512 .bf16) (Wm : Vec Ideal S1536x1024 .bf16)
  (g : Vec Ideal S1x1x1024 .f32) (W : Vec Ideal S1x1024x5632 .bf16) (cw : Vec Ideal S1x3x5632 .f32) (cb : Vec Ideal S1x1x5632 .f32) (Wd : Vec Ideal S1x2816x1024 .bf16)

/-- The down projection of tile row `r` at column `d`. -/
def downAt (a : Vec Ideal S512x2816 .bf16) (r : Fin 512) (d : Fin 1024) : EReal := ∑ c, a (ix2 (rowTo r) c) * Wd (ix3 0 c d)

/-- The slabs of the down projection, read back. -/
theorem yLoads_apply {sg : RefSig} (c17 : View sg .tc .vmem S8x512x128 .f32) (a : Vec Ideal S512x2816 .bf16) (l n : ℕ) (hl : l < 8) (h : n < 16) (u : Fin 32) (m : Fin 128) :
    (yLoads c17 (fun r => View.ld A r) (fun r => View.ld B r) (fun r => View.ld Wm r) (fun r => View.ld Wd r) a (sRect l n hl h) : Vec Ideal S1x32x128 .f32) (ix3 0 u m)
      = downAt Wd a (rowIx n h u) (laneIx l hl m) := by
  unfold yLoads
  rw [View.readCov_eq_canon']
  dsimp only
  rw [View.ld_unit_lit' _ Wd (by decide)]
  refine (congrArg _ (idx_sRect l n hl h u m)).trans ?_
  refine (yPieces_apply _ _ 16 le_rfl _ (by show 2 * l + (32 * n + u.val) % 2 < 16; omega)).trans ?_
  exact ypBlk_apply _ _ _

/-- The output block of a grid point, from the blocks it reads and the carry `K`. -/
theorem pointOut_apply {sg : RefSig} (c12 : View sg .tc .vmem S1x512x1024 .f32) (c13 : View sg .tc .vmem S512x1024 .bf16) (c14 : View sg .tc .vmem S2x4x520x128 .f32) (c16 : View sg .tc .vmem S512x2816 .bf16) (c17 : View sg .tc .vmem S8x512x128 .f32)
    (K : Vec Ideal S44x8x128 .f32) (k : (q : ℕ) → q < 44 → Vec Ideal S1x8x128 .f32) (hk : ∀ q h (x : S1x8x128.Idx), k q h x = K (ix3 (slabIx q h) (x 1) (x 2))) (r : Fin 512) (d : Fin 1024) :
    View.canon (pointOut c12 c13 c14 c16 c17 (fun r => View.ld X r) (fun r => View.ld A r) (fun r => View.ld B r) (fun r => View.ld Wm r) (fun r => View.ld g r) (fun r => View.ld W r) (fun r => View.ld cw r)
        (fun r => View.ld cb r) (fun r => View.ld Wd r) k) (ix3 0 r d)
      = sumAt A B Wm X (ix3 0 r d) + ∑ c, hid (hnAt (sumAt A B Wm X) g) W K cb cw r c * Wd (ix3 0 c d) := by
  unfold pointOut
  rw [hnOf_eq, actOf_eq (hnAt (sumAt A B Wm X) g) W K k hk cb cw c14 c16]
  refine (oPieces_apply _ _ (fun l n hl h u m => yLoads_apply A B Wm Wd c17 _ l n hl h u m) c12 _ 16 le_rfl (ix3 0 r d) r.isLt).trans ?_
  refine congrArg₂ (· + ·) (xPieces_apply X _ (mixAt A B Wm) (fun l n hl h u m => mixLoads_apply A B Wm c17 l n hl h u m) 16 le_rfl (ix3 0 r d) r.isLt) ?_
  unfold downAt
  refine Finset.sum_congr rfl fun c _ => congrArg (· * Wd (ix3 0 c d)) ?_
  exact congrArg (fun r => hid (hnAt (sumAt A B Wm X) g) W K cb cw r c) (rowOf_rowTo r)

end Out

section Tile
variable (Xb : Vec Ideal S1x512x1024 .f32) (g : Vec Ideal S1x1x1024 .f32) (W : Vec Ideal S1x1024x5632 .bf16) (cw : Vec Ideal S1x3x5632 .f32) (cb : Vec Ideal S1x1x5632 .f32)
  (Wd : Vec Ideal S1x2816x1024 .bf16)
  (X : Fin 16384 → Fin 1024 → EReal) (i : ℕ) (hi : i < 32) (hX : ∀ (r : Fin 512) k, Xb (ix3 0 r k) = X (tokOf i hi r) k)
  (K : Vec Ideal S44x8x128 .f32)
  (hK : ∀ (n : Fin 8) (c : Fin 5632), 6 ≤ n.val → K (carryIx n c)
    = padded (fun T => upSeq g W X T c) (padIx i hi n))

include hX hK in
/-- The tile's output row is the layer's. -/
theorem tile_layer (r : Fin 512) (d : Fin 1024) :
    Xb (ix3 0 r d) + ∑ c, hid (hnAt Xb g) W K cb cw r c * Wd (ix3 0 c d)
      = layer X (fun k => g (ix3 0 0 k)) (fun k c => W (ix3 0 k c)) (fun t c => cw (ix3 0 t c)) (fun c => cb (ix3 0 0 c)) (fun c d => Wd (ix3 0 c d)) (tokOf i hi r) d := by
  refine congrArg₂ (· + ·) (hX r d) (Finset.sum_congr rfl fun c _ => congrArg (· * Wd (ix3 0 c d)) ?_)
  unfold hid
  rw [convTile_eq Xb g W cw cb X i hi hX K hK, convTile_eq Xb g W cw cb X i hi hX K hK]
  rfl

end Tile

end Cert.Ffn0

end
-- ==== Proof.Ffn0.Host.lean ====
/- What the host hands layer 0's feed-forward kernel, each read at an index from the arguments. -/
module

public import proofs.«01_k».proof.Proof.Ffn0.Spec
public import proofs.«01_k».proof.Proof.Gen.Kernel3Ideal.Value
public import Idealize.ShloMosaic.Lib.StableHlo.ReadAt

@[expose] public section

noncomputable section

namespace Cert.Ffn0

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The gains handed to the kernel. -/
theorem host_gain (j : S2x1x1024.Idx) : (V m c main_v0 : Vec Ideal S2x1x1024 .f32) j = m ((c : Thread nD τ).loc main_arg4) (ix2 (j 0) (j 2)) := by
  unfold V; after_reads_at

/-- The up projections handed to the kernel. -/
theorem host_up (j : S2x1024x5632.Idx) : (V m c main_v1 : Vec Ideal S2x1024x5632 .bf16) j = m ((c : Thread nD τ).loc main_arg5) j := by
  unfold V; after_reads_at

/-- The convolution biases handed to the kernel. -/
theorem host_cb (j : S2x1x5632.Idx) : (V m c main_v2 : Vec Ideal S2x1x5632 .f32) j = m ((c : Thread nD τ).loc main_arg7) (ix2 (j 0) (j 2)) := by
  unfold V; after_reads_at

/-- The down projections handed to the kernel. -/
theorem host_down (j : S2x2816x1024.Idx) : (V m c main_v3 : Vec Ideal S2x2816x1024 .bf16) j = m ((c : Thread nD τ).loc main_arg8) j := by
  unfold V; after_reads_at

/-- The mixers' output projection handed to the kernel. -/
theorem host_mix (k : Fin 1536) (d : Fin 1024) : (V m c main_v5 : Vec Ideal S1536x1024 .bf16) (ix2 k d) = m ((c : Thread nD τ).loc main_arg3) (ix3 0 k d) := by
  unfold V; after_reads_at

end Cert.Ffn0

end
-- ==== Proof.Ffn0.PointA.lean ====
/- What layer 0's feed-forward kernel stores at the first tile of a sequence, where the carry is first zeroed. -/
module

public import proofs.«01_k».proof.Proof.Ffn0.Block
public import proofs.«01_k».proof.Proof.Ffn.PointA
public import proofs.«01_k».proof.Proof.Gen.Kernel3Ideal.Frame.RunA

@[expose] public section

noncomputable section

namespace Cert.Ffn0

open Cert.Kernel3Ideal Cert.Kernel3Ideal.Gen Idealize.ShloMosaic Idealize.SL.Sem
open Cert.Ffn (Loads loadsOf kRect zeroCarry)

variable {F : FTy → Type} [FloatOps F]

/-- The carried rows step `q` reads at the first tile of a sequence. -/
def carryA {sg : RefSig} (c13 : View sg .tc .vmem S512x1024 .bf16) (c15 : View sg .tc .vmem S44x8x128 .f32) (c17 : View sg .tc .vmem S8x512x128 .f32)
    (lx : Loads F S1x512x1024 .f32) (la : Loads F S1x512x1024 .bf16) (lb : Loads F S1x512x512 .bf16) (lm : Loads F S1536x1024 .bf16) (lg : Loads F S1x1x1024 .f32) (lw : Loads F S1x1024x5632 .bf16)
    (q : ℕ) (h : q < 44) : Vec F S1x8x128 .f32 :=
  c15.readCov (pointCarry c13 c17 lx la lb lm lg lw zeroCarry q (Nat.le_of_lt h)) (kRect q h).toLoadRect

set_option maxRecDepth 100000 in
set_option maxHeartbeats 4000000 in
/-- The kernel's stores into its output block at the first tile of a sequence. -/
theorem run_pieces_A (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1x512x512 .bf16) (harg4 : arg4.IsWhole) (arg5 : Memref sig .tc .vmem S1536x1024 .bf16) (harg5 : arg5.IsWhole) (arg6 : Memref sig .tc .vmem S1x1x1024 .f32) (harg6 : arg6.IsWhole) (arg7 : Memref sig .tc .vmem S1x1024x5632 .bf16) (harg7 : arg7.IsWhole) (arg8 : Memref sig .tc .vmem S1x3x5632 .f32) (harg8 : arg8.IsWhole) (arg9 : Memref sig .tc .vmem S1x1x5632 .f32) (harg9 : arg9.IsWhole) (arg10 : Memref sig .tc .vmem S1x2816x1024 .bf16) (harg10 : arg10.IsWhole) (arg11 : Memref sig .tc .vmem S1x1024 .f32) (harg11 : arg11.IsWhole) (arg12 : Memref sig .tc .vmem S1x512x1024 .f32) (harg12 : arg12.IsWhole) (arg13 : Memref sig .tc .vmem S512x1024 .bf16) (harg13 : arg13.IsWhole) (arg14 : Memref sig .tc .vmem S2x4x520x128 .f32) (harg14 : arg14.IsWhole) (arg15 : Memref sig .tc .vmem S44x8x128 .f32) (harg15 : arg15.IsWhole) (arg16 : Memref sig .tc .vmem S512x2816 .bf16) (harg16 : arg16.IsWhole) (arg17 : Memref sig .tc .vmem S8x512x128 .f32) (harg17 : arg17.IsWhole) (hc0 : cond0_0 i)
    (x0 : Vec F S1x512x1024 .f32) (x1 : Vec F S1x512x1024 .bf16) (x2 : Vec F S1x512x512 .bf16) (x3 : Vec F S1536x1024 .bf16) (x4 : Vec F S1x1x1024 .f32) (x5 : Vec F S1x1024x5632 .bf16) (x6 : Vec F S1x3x5632 .f32) (x7 : Vec F S1x1x5632 .f32) (x8 : Vec F S1x2816x1024 .bf16) (x9 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).1
      = pointOut arg12.view arg13.view arg14.view arg16.view arg17.view (loadsOf arg2 harg2 x0) (loadsOf arg3 harg3 x1) (loadsOf arg4 harg4 x2) (loadsOf arg5 harg5 x3) (loadsOf arg6 harg6 x4) (loadsOf arg7 harg7 x5) (loadsOf arg8 harg8 x6) (loadsOf arg9 harg9 x7) (loadsOf arg10 harg10 x8)
          (carryA arg13.view arg15.view arg17.view (loadsOf arg2 harg2 x0) (loadsOf arg3 harg3 x1) (loadsOf arg4 harg4 x2) (loadsOf arg5 harg5 x3) (loadsOf arg6 harg6 x4) (loadsOf arg7 harg7 x5)) := by
  sl_kernel_rfl

set_option maxRecDepth 100000 in
set_option maxHeartbeats 4000000 in
/-- The kernel's stores into the carry at the first tile of a sequence. -/
theorem run_carry_A (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1x512x512 .bf16) (harg4 : arg4.IsWhole) (arg5 : Memref sig .tc .vmem S1536x1024 .bf16) (harg5 : arg5.IsWhole) (arg6 : Memref sig .tc .vmem S1x1x1024 .f32) (harg6 : arg6.IsWhole) (arg7 : Memref sig .tc .vmem S1x1024x5632 .bf16) (harg7 : arg7.IsWhole) (arg8 : Memref sig .tc .vmem S1x3x5632 .f32) (harg8 : arg8.IsWhole) (arg9 : Memref sig .tc .vmem S1x1x5632 .f32) (harg9 : arg9.IsWhole) (arg10 : Memref sig .tc .vmem S1x2816x1024 .bf16) (harg10 : arg10.IsWhole) (arg11 : Memref sig .tc .vmem S1x1024 .f32) (harg11 : arg11.IsWhole) (arg12 : Memref sig .tc .vmem S1x512x1024 .f32) (harg12 : arg12.IsWhole) (arg13 : Memref sig .tc .vmem S512x1024 .bf16) (harg13 : arg13.IsWhole) (arg14 : Memref sig .tc .vmem S2x4x520x128 .f32) (harg14 : arg14.IsWhole) (arg15 : Memref sig .tc .vmem S44x8x128 .f32) (harg15 : arg15.IsWhole) (arg16 : Memref sig .tc .vmem S512x2816 .bf16) (harg16 : arg16.IsWhole) (arg17 : Memref sig .tc .vmem S8x512x128 .f32) (harg17 : arg17.IsWhole) (hc0 : cond0_0 i)
    (x0 : Vec F S1x512x1024 .f32) (x1 : Vec F S1x512x1024 .bf16) (x2 : Vec F S1x512x512 .bf16) (x3 : Vec F S1536x1024 .bf16) (x4 : Vec F S1x1x1024 .f32) (x5 : Vec F S1x1024x5632 .bf16) (x6 : Vec F S1x3x5632 .f32) (x7 : Vec F S1x1x5632 .f32) (x8 : Vec F S1x2816x1024 .bf16) (x9 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.1
      = pointCarry arg13.view arg17.view (loadsOf arg2 harg2 x0) (loadsOf arg3 harg3 x1) (loadsOf arg4 harg4 x2) (loadsOf arg5 harg5 x3) (loadsOf arg6 harg6 x4) (loadsOf arg7 harg7 x5) zeroCarry 44 le_rfl := by
  sl_kernel_rfl

end Cert.Ffn0

end
-- ==== Proof.Ffn0.PointB.lean ====
/- What layer 0's feed-forward kernel stores at a later tile of a sequence, where the carry holds the last rows of the tile before. -/
module

public import proofs.«01_k».proof.Proof.Ffn0.Block
public import proofs.«01_k».proof.Proof.Ffn.PointB
public import proofs.«01_k».proof.Proof.Gen.Kernel3Ideal.Frame.RunB

@[expose] public section

noncomputable section

namespace Cert.Ffn0

open Cert.Kernel3Ideal Cert.Kernel3Ideal.Gen Idealize.ShloMosaic Idealize.SL.Sem
open Cert.Ffn (Loads loadsOf kRect carryB)

variable {F : FTy → Type} [FloatOps F]

set_option maxRecDepth 100000 in
set_option maxHeartbeats 4000000 in
/-- The kernel's stores into its output block at a later tile of a sequence. -/
theorem run_pieces_B (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1x512x512 .bf16) (harg4 : arg4.IsWhole) (arg5 : Memref sig .tc .vmem S1536x1024 .bf16) (harg5 : arg5.IsWhole) (arg6 : Memref sig .tc .vmem S1x1x1024 .f32) (harg6 : arg6.IsWhole) (arg7 : Memref sig .tc .vmem S1x1024x5632 .bf16) (harg7 : arg7.IsWhole) (arg8 : Memref sig .tc .vmem S1x3x5632 .f32) (harg8 : arg8.IsWhole) (arg9 : Memref sig .tc .vmem S1x1x5632 .f32) (harg9 : arg9.IsWhole) (arg10 : Memref sig .tc .vmem S1x2816x1024 .bf16) (harg10 : arg10.IsWhole) (arg11 : Memref sig .tc .vmem S1x1024 .f32) (harg11 : arg11.IsWhole) (arg12 : Memref sig .tc .vmem S1x512x1024 .f32) (harg12 : arg12.IsWhole) (arg13 : Memref sig .tc .vmem S512x1024 .bf16) (harg13 : arg13.IsWhole) (arg14 : Memref sig .tc .vmem S2x4x520x128 .f32) (harg14 : arg14.IsWhole) (arg15 : Memref sig .tc .vmem S44x8x128 .f32) (harg15 : arg15.IsWhole) (arg16 : Memref sig .tc .vmem S512x2816 .bf16) (harg16 : arg16.IsWhole) (arg17 : Memref sig .tc .vmem S8x512x128 .f32) (harg17 : arg17.IsWhole) (hc0 : ¬ cond0_0 i)
    (x0 : Vec F S1x512x1024 .f32) (x1 : Vec F S1x512x1024 .bf16) (x2 : Vec F S1x512x512 .bf16) (x3 : Vec F S1536x1024 .bf16) (x4 : Vec F S1x1x1024 .f32) (x5 : Vec F S1x1024x5632 .bf16) (x6 : Vec F S1x3x5632 .f32) (x7 : Vec F S1x1x5632 .f32) (x8 : Vec F S1x2816x1024 .bf16) (x9 : Vec F S1x1024 .f32) (xs2 : Vec F S44x8x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs2).1
      = pointOut arg12.view arg13.view arg14.view arg16.view arg17.view (loadsOf arg2 harg2 x0) (loadsOf arg3 harg3 x1) (loadsOf arg4 harg4 x2) (loadsOf arg5 harg5 x3) (loadsOf arg6 harg6 x4) (loadsOf arg7 harg7 x5) (loadsOf arg8 harg8 x6) (loadsOf arg9 harg9 x7) (loadsOf arg10 harg10 x8)
          (carryB (loadsOf arg15 harg15 xs2)) := by
  sl_kernel_rfl

set_option maxRecDepth 100000 in
set_option maxHeartbeats 4000000 in
/-- The kernel's stores into the carry at a later tile of a sequence. -/
theorem run_carry_B (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1x512x512 .bf16) (harg4 : arg4.IsWhole) (arg5 : Memref sig .tc .vmem S1536x1024 .bf16) (harg5 : arg5.IsWhole) (arg6 : Memref sig .tc .vmem S1x1x1024 .f32) (harg6 : arg6.IsWhole) (arg7 : Memref sig .tc .vmem S1x1024x5632 .bf16) (harg7 : arg7.IsWhole) (arg8 : Memref sig .tc .vmem S1x3x5632 .f32) (harg8 : arg8.IsWhole) (arg9 : Memref sig .tc .vmem S1x1x5632 .f32) (harg9 : arg9.IsWhole) (arg10 : Memref sig .tc .vmem S1x2816x1024 .bf16) (harg10 : arg10.IsWhole) (arg11 : Memref sig .tc .vmem S1x1024 .f32) (harg11 : arg11.IsWhole) (arg12 : Memref sig .tc .vmem S1x512x1024 .f32) (harg12 : arg12.IsWhole) (arg13 : Memref sig .tc .vmem S512x1024 .bf16) (harg13 : arg13.IsWhole) (arg14 : Memref sig .tc .vmem S2x4x520x128 .f32) (harg14 : arg14.IsWhole) (arg15 : Memref sig .tc .vmem S44x8x128 .f32) (harg15 : arg15.IsWhole) (arg16 : Memref sig .tc .vmem S512x2816 .bf16) (harg16 : arg16.IsWhole) (arg17 : Memref sig .tc .vmem S8x512x128 .f32) (harg17 : arg17.IsWhole) (hc0 : ¬ cond0_0 i)
    (x0 : Vec F S1x512x1024 .f32) (x1 : Vec F S1x512x1024 .bf16) (x2 : Vec F S1x512x512 .bf16) (x3 : Vec F S1536x1024 .bf16) (x4 : Vec F S1x1x1024 .f32) (x5 : Vec F S1x1024x5632 .bf16) (x6 : Vec F S1x3x5632 .f32) (x7 : Vec F S1x1x5632 .f32) (x8 : Vec F S1x2816x1024 .bf16) (x9 : Vec F S1x1024 .f32) (xs2 : Vec F S44x8x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs2).2.1
      = pointCarry arg13.view arg17.view (loadsOf arg2 harg2 x0) (loadsOf arg3 harg3 x1) (loadsOf arg4 harg4 x2) (loadsOf arg5 harg5 x3) (loadsOf arg6 harg6 x4) (loadsOf arg7 harg7 x5) [] 44 le_rfl := by
  sl_kernel_rfl

end Cert.Ffn0

end
-- ==== Proof.Ffn0.Array.lean ====
/- What layer 0's feed-forward kernel leaves in its output array at the end: the layer, computed from the arguments. -/
module

public import proofs.«01_k».proof.Proof.Ffn0.Out
public import proofs.«01_k».proof.Proof.Ffn0.Host
public import proofs.«01_k».proof.Proof.Ffn0.PointA
public import proofs.«01_k».proof.Proof.Ffn0.PointB
public import Idealize.ShloMosaic.Lib.Pipeline.ValueKit.Geometry

@[expose] public section

noncomputable section

namespace Cert.Ffn0

open Cert.Kernel3Ideal Cert.Kernel3Ideal.Gen Idealize.ShloMosaic Idealize.ShloMosaic.TcCoe Idealize.SL.Sem
open Cert.Sgu (rms gelu)
open Cert.Ffn (hnAt hid padded upSeq up tokOf padIx carryIx lastRows slabIx kPieces_skip carry_eq lastRows_eq zeroCarry slab slab_inj carryB emb_kRect loadsOf_eq padded_of_lt padded_of_le)

variable (m : (ℓ : Loc nD τ sig) → Buf (Elt Ideal) ℓ) (c : Dev nD)

/-- The sequence `n` after the mixers. -/
def seqAt (n : Fin 2) : Fin 16384 → Fin 1024 → EReal :=
  stream (fun T k => m ((c : Thread nD τ).loc main_arg0) (ix3 n T k)) (fun T k => m ((c : Thread nD τ).loc main_arg1) (ix3 n T k))
    (fun T k => m ((c : Thread nD τ).loc main_arg2) (ix3 n T k)) (fun k d => m ((c : Thread nD τ).loc main_arg3) (ix3 0 k d))

/-- The layer of the kernel's arguments. -/
def result (y : S2x16384x1024.Idx) : EReal :=
  layer (seqAt m c (y 0)) (fun k => m ((c : Thread nD τ).loc main_arg4) (ix2 0 k))
    (fun k c' => m ((c : Thread nD τ).loc main_arg5) (ix3 0 k c')) (fun k c' => m ((c : Thread nD τ).loc main_arg6) (ix3 0 k c'))
    (fun c' => m ((c : Thread nD τ).loc main_arg7) (ix2 0 c')) (fun c' d => m ((c : Thread nD τ).loc main_arg8) (ix3 0 c' d)) (y 1) (y 2)

/-! ## The blocks a point reads -/

/-- The stream's block at a point: the point's 512 tokens. -/
theorem blk_x (t : Fin cfg0.N) (y : S1x512x1024.Idx) : iblk m c 0 t y
    = m ((c : Thread nD τ).loc main_arg0) (ix3 (⟨(grid0.coords t 0).val, (grid0.coords t 0).isLt⟩ : Fin 2)
        (⟨512 * (grid0.coords t 1).val + (y 1).val, by have h : (grid0.coords t 1).val < 32 := (grid0.coords t 1).isLt; have h' : (y 1).val < 512 := (y 1).isLt; omega⟩ : Fin 16384) (y 2)) := by
  have e : ∀ t : Fin cfg0.N, win0_0.index t = ![(grid0.coords t 0).val, (grid0.coords t 1).val, 0] := by decide +kernel
  blk_ext [iblk, V_main_arg0, e t]

/-- The retention's block at a point: the point's 512 tokens. -/
theorem blk_ya (t : Fin cfg0.N) (y : S1x512x1024.Idx) : iblk m c 1 t y
    = m ((c : Thread nD τ).loc main_arg1) (ix3 (⟨(grid0.coords t 0).val, (grid0.coords t 0).isLt⟩ : Fin 2)
        (⟨512 * (grid0.coords t 1).val + (y 1).val, by have h : (grid0.coords t 1).val < 32 := (grid0.coords t 1).isLt; have h' : (y 1).val < 512 := (y 1).isLt; omega⟩ : Fin 16384) (y 2)) := by
  have e : ∀ t : Fin cfg0.N, win0_1.index t = ![(grid0.coords t 0).val, (grid0.coords t 1).val, 0] := by decide +kernel
  blk_ext [iblk, V_main_arg1, e t]

/-- The attention's block at a point: the point's 512 tokens. -/
theorem blk_yb (t : Fin cfg0.N) (y : S1x512x512.Idx) : iblk m c 2 t y
    = m ((c : Thread nD τ).loc main_arg2) (ix3 (⟨(grid0.coords t 0).val, (grid0.coords t 0).isLt⟩ : Fin 2)
        (⟨512 * (grid0.coords t 1).val + (y 1).val, by have h : (grid0.coords t 1).val < 32 := (grid0.coords t 1).isLt; have h' : (y 1).val < 512 := (y 1).isLt; omega⟩ : Fin 16384) (y 2)) := by
  have e : ∀ t : Fin cfg0.N, win0_2.index t = ![(grid0.coords t 0).val, (grid0.coords t 1).val, 0] := by decide +kernel
  blk_ext [iblk, V_main_arg2, e t]

/-- The mixers' output projection, as a point reads it. -/
theorem blk_mix (t : Fin cfg0.N) (k : Fin 1536) (d : Fin 1024) : iblk m c 3 t (ix2 k d) = m ((c : Thread nD τ).loc main_arg3) (ix3 0 k d) := by
  have e : ∀ t : Fin cfg0.N, win0_3.index t = ![0, 0] := by decide +kernel
  trans V m c main_v5 (ix2 k d)
  · blk_ext [iblk, e t]
  · exact host_mix m c k d

/-- The gain's block. -/
theorem blk_g (t : Fin cfg0.N) (k : Fin 1024) : iblk m c 4 t (ix3 0 0 k) = m ((c : Thread nD τ).loc main_arg4) (ix2 0 k) := by
  have e : ∀ t : Fin cfg0.N, win0_4.index t = ![0, 0, 0] := by decide +kernel
  trans V m c main_v0 (ix3 0 0 k)
  · blk_ext [iblk, e t]
  · exact host_gain m c (ix3 0 0 k)

/-- The up projection's block. -/
theorem blk_up (t : Fin cfg0.N) (k : Fin 1024) (c' : Fin 5632) : iblk m c 5 t (ix3 0 k c') = m ((c : Thread nD τ).loc main_arg5) (ix3 0 k c') := by
  have e : ∀ t : Fin cfg0.N, win0_5.index t = ![0, 0, 0] := by decide +kernel
  trans V m c main_v1 (ix3 0 k c')
  · blk_ext [iblk, e t]
  · exact host_up m c (ix3 0 k c')

/-- The convolution weights' block. -/
theorem blk_cw (t : Fin cfg0.N) (k : Fin 3) (c' : Fin 5632) : iblk m c 6 t (ix3 0 k c') = m ((c : Thread nD τ).loc main_arg6) (ix3 0 k c') := by
  have e : ∀ t : Fin cfg0.N, win0_6.index t = ![0, 0, 0] := by decide +kernel
  blk_ext [iblk, V_main_arg6, e t]

/-- The convolution bias's block. -/
theorem blk_cb (t : Fin cfg0.N) (c' : Fin 5632) : iblk m c 7 t (ix3 0 0 c') = m ((c : Thread nD τ).loc main_arg7) (ix2 0 c') := by
  have e : ∀ t : Fin cfg0.N, win0_7.index t = ![0, 0, 0] := by decide +kernel
  trans V m c main_v2 (ix3 0 0 c')
  · blk_ext [iblk, e t]
  · exact host_cb m c (ix3 0 0 c')

/-- The down projection's block. -/
theorem blk_down (t : Fin cfg0.N) (c' : Fin 2816) (d : Fin 1024) : iblk m c 8 t (ix3 0 c' d) = m ((c : Thread nD τ).loc main_arg8) (ix3 0 c' d) := by
  have e : ∀ t : Fin cfg0.N, win0_8.index t = ![0, 0, 0] := by decide +kernel
  trans V m c main_v3 (ix3 0 c' d)
  · blk_ext [iblk, e t]
  · exact host_down m c (ix3 0 c' d)

/-- The stream after the mixers at a point's rows, from the blocks it reads. -/
def sumBlk (t : Fin cfg0.N) : Vec Ideal S1x512x1024 .f32 := sumAt (iblk m c 1 t) (iblk m c 2 t) (iblk m c 3 t) (iblk m c 0 t)

/-! ## The carry -/

/-- The carried rows at the first tile of a sequence are zero. -/
theorem carryA_apply {sg : RefSig} (c13 : View sg .tc .vmem S512x1024 .bf16) (c15 : View sg .tc .vmem S44x8x128 .f32) (c17 : View sg .tc .vmem S8x512x128 .f32)
    (X : Vec Ideal S1x512x1024 .f32) (A : Vec Ideal S1x512x1024 .bf16) (B : Vec Ideal S1x512x512 .bf16) (Wm : Vec Ideal S1536x1024 .bf16) (g : Vec Ideal S1x1x1024 .f32) (W : Vec Ideal S1x1024x5632 .bf16)
    (q : ℕ) (h : q < 44) (x : S1x8x128.Idx) :
    carryA c13 c15 c17 (fun r => View.ld X r) (fun r => View.ld A r) (fun r => View.ld B r) (fun r => View.ld Wm r) (fun r => View.ld g r) (fun r => View.ld W r) q h x = 0 := by
  have hx : (x 0).val < 1 := (x 0).isLt
  unfold carryA pointCarry
  rw [View.readCov_eq_canon']
  refine (kPieces_skip _ _ q _ _ fun q' hq' e => ?_).trans ?_
  · have e' : slab q + 1 * (x 0).val = slab q' := e
    have := slab_inj q q' h (by omega) (by omega)
    omega
  · unfold zeroCarry
    rw [View.canon_cons_unit_lit']
    · pointwise
    all_goals decide

/-- The carried rows at a later tile are what the carry holds. -/
theorem carryB_apply (K : Vec Ideal S44x8x128 .f32) (q : ℕ) (h : q < 44) (x : S1x8x128.Idx) :
    carryB (fun r => View.ld K r) q h x = K (ix3 (slabIx q h) (x 1) (x 2)) :=
  congrArg K (emb_kRect q h x)

/-- What a point leaves in the carry: its last rows. -/
theorem carry_after (t : Fin cfg0.N) : (outsAt0 m c t.val t.isLt).2 = lastRows (hnAt (sumBlk m c t) (iblk m c 4 t)) (iblk m c 5 t) := by
  by_cases h0 : t.val % 32 = 0
  · rw [outsAt0_A m c t h0]
    dsimp only
    unfold sout0_A_2
    rw [run_carry_A, View.read_writes_junk_eq_canon]
    simp only [loadsOf_eq]
    unfold pointCarry
    rw [hnOf_eq]
    exact carry_eq _ _ _
  · rw [outsAt0_B m c t h0]
    dsimp only
    unfold sout0_B_2
    rw [run_carry_B, View.read_writes_junk_eq_canon]
    simp only [loadsOf_eq]
    unfold pointCarry
    rw [hnOf_eq]
    exact carry_eq _ _ _

/-! ## The output block -/

/-- The grid's coordinates. -/
theorem coords_eq : ∀ t : Fin cfg0.N, (grid0.coords t 0).val = t.val / 32 ∧ (grid0.coords t 1).val = t.val % 32 := by decide +kernel

/-- The sequence a point works on. -/
def seqOf (t : Fin cfg0.N) : Fin 16384 → Fin 1024 → EReal := seqAt m c ⟨(grid0.coords t 0).val, (grid0.coords t 0).isLt⟩

/-- A point's rows are the sequence's. -/
theorem sumBlk_eq (t : Fin cfg0.N) (hi : (grid0.coords t 1).val < 32) (r : Fin 512) (k : Fin 1024) :
    sumBlk m c t (ix3 0 r k) = seqOf m c t (tokOf (grid0.coords t 1).val hi r) k := by
  have ha : (fun k => (iblk m c 1 t (ix3 0 r k) : EReal)) = fun k => m ((c : Thread nD τ).loc main_arg1) (ix3 (⟨(grid0.coords t 0).val, (grid0.coords t 0).isLt⟩ : Fin 2) (tokOf (grid0.coords t 1).val hi r) k) :=
    funext fun k => blk_ya m c t (ix3 0 r k)
  have hb : (fun k => (iblk m c 2 t (ix3 0 r k) : EReal)) = fun k => m ((c : Thread nD τ).loc main_arg2) (ix3 (⟨(grid0.coords t 0).val, (grid0.coords t 0).isLt⟩ : Fin 2) (tokOf (grid0.coords t 1).val hi r) k) :=
    funext fun k => blk_yb m c t (ix3 0 r k)
  have hw : (fun (k : Fin 1536) (d : Fin 1024) => (iblk m c 3 t (ix2 k d) : EReal)) = fun k d => m ((c : Thread nD τ).loc main_arg3) (ix3 0 k d) :=
    funext fun k => funext fun d => blk_mix m c t k d
  refine congrArg₂ (· + ·) (blk_x m c t (ix3 0 r k)) ?_
  show mix (fun k => (iblk m c 1 t (ix3 0 r k) : EReal)) (fun k => (iblk m c 2 t (ix3 0 r k) : EReal)) (fun (k : Fin 1536) (d : Fin 1024) => (iblk m c 3 t (ix2 k d) : EReal)) k = _
  rw [ha, hb, hw]

/-- What a point computes is the layer at its tokens, when the carry it reads holds the padded sequence's rows. -/
theorem point_layer (t : Fin cfg0.N) (hi : (grid0.coords t 1).val < 32) (K : Vec Ideal S44x8x128 .f32)
    (hK : ∀ (n : Fin 8) (c' : Fin 5632), 6 ≤ n.val → K (carryIx n c')
      = padded (fun T => upSeq (iblk m c 4 t) (iblk m c 5 t) (seqOf m c t) T c') (padIx (grid0.coords t 1).val hi n)) (r : Fin 512) (d : Fin 1024) :
    sumBlk m c t (ix3 0 r d) + ∑ c', hid (hnAt (sumBlk m c t) (iblk m c 4 t)) (iblk m c 5 t) K (iblk m c 7 t) (iblk m c 6 t) r c' * iblk m c 8 t (ix3 0 c' d)
      = result m c (ix3 (⟨(grid0.coords t 0).val, (grid0.coords t 0).isLt⟩ : Fin 2) (tokOf (grid0.coords t 1).val hi r) d) := by
  refine (tile_layer (sumBlk m c t) (iblk m c 4 t) (iblk m c 5 t) (iblk m c 6 t) (iblk m c 7 t) (iblk m c 8 t) (seqOf m c t) (grid0.coords t 1).val hi
    (sumBlk_eq m c t hi) K hK r d).trans ?_
  have h1 : (fun k => (iblk m c 4 t (ix3 0 0 k) : EReal)) = fun k => m ((c : Thread nD τ).loc main_arg4) (ix2 0 k) := funext fun k => blk_g m c t k
  have h2 : (fun (k : Fin 1024) (c' : Fin 5632) => (iblk m c 5 t (ix3 0 k c') : EReal)) = fun k c' => m ((c : Thread nD τ).loc main_arg5) (ix3 0 k c') := funext fun k => funext fun c' => blk_up m c t k c'
  have h3 : (fun (k : Fin 3) (c' : Fin 5632) => (iblk m c 6 t (ix3 0 k c') : EReal)) = fun k c' => m ((c : Thread nD τ).loc main_arg6) (ix3 0 k c') := funext fun k => funext fun c' => blk_cw m c t k c'
  have h4 : (fun (c' : Fin 5632) => (iblk m c 7 t (ix3 0 0 c') : EReal)) = fun c' => m ((c : Thread nD τ).loc main_arg7) (ix2 0 c') := funext fun c' => blk_cb m c t c'
  have h5 : (fun (c' : Fin 2816) (d : Fin 1024) => (iblk m c 8 t (ix3 0 c' d) : EReal)) = fun c' d => m ((c : Thread nD τ).loc main_arg8) (ix3 0 c' d) := funext fun c' => funext fun d => blk_down m c t c' d
  unfold result
  rw [h1, h2, h3, h4, h5]
  rfl

/-- The up projection of a sequence does not change from one tile of it to the next. -/
theorem upSeq_prev (t s : Fin cfg0.N) (h : (grid0.coords s 0).val = (grid0.coords t 0).val) (T : Fin 16384) (c' : Fin 5632) :
    upSeq (iblk m c 4 s) (iblk m c 5 s) (seqOf m c s) T c' = upSeq (iblk m c 4 t) (iblk m c 5 t) (seqOf m c t) T c' := by
  have e : seqOf m c s = seqOf m c t := by
    unfold seqOf
    exact congrArg (seqAt m c) (Fin.ext h)
  unfold upSeq
  rw [e]
  refine congrArg₂ (fun g W => up (rms (seqOf m c t T) g) W c') (funext fun k => ?_) (funext fun k => funext fun c'' => ?_)
  · exact (blk_g m c s k).trans (blk_g m c t k).symm
  · exact (blk_up m c s k c'').trans (blk_up m c t k c'').symm

/-- The output block a point leaves: the layer at the point's tokens. -/
theorem block_eq (t : Fin cfg0.N) (y : S1x512x1024.Idx) : (outsAt0 m c t.val t.isLt).1 y
    = result m c (ix3 (⟨(grid0.coords t 0).val, (grid0.coords t 0).isLt⟩ : Fin 2)
        (⟨512 * (grid0.coords t 1).val + (y 1).val, by have h : (grid0.coords t 1).val < 32 := (grid0.coords t 1).isLt; have h' : (y 1).val < 512 := (y 1).isLt; omega⟩ : Fin 16384) (y 2)) := by
  obtain ⟨r, d, rfl⟩ : ∃ (r : Fin 512) (d : Fin 1024), y = ix3 (0 : Fin 1) r d := by
    refine ⟨y 1, y 2, funext fun a => ?_⟩
    fin_cases a
    · exact Subsingleton.elim (α := Fin 1) _ _
    · rfl
    · rfl
  have hi : (grid0.coords t 1).val < 32 := (grid0.coords t 1).isLt
  obtain ⟨ec0, ec1⟩ := coords_eq t
  by_cases h0 : t.val % 32 = 0
  · rw [outsAt0_A m c t h0]
    dsimp only
    unfold out0_A_10
    rw [run_pieces_A, View.read_writes_junk_eq_canon]
    simp only [loadsOf_eq]
    refine (pointOut_apply (iblk m c 0 t) (iblk m c 1 t) (iblk m c 2 t) (iblk m c 3 t) (iblk m c 4 t) (iblk m c 5 t) (iblk m c 6 t) (iblk m c 7 t) (iblk m c 8 t) _ _ _ _ _ (fun _ => 0) _
      (fun q h x => carryA_apply _ _ _ _ _ _ _ _ _ q h x) r d).trans ?_
    refine point_layer m c t hi (fun _ => 0) (fun n c' hn => ?_) r d
    exact (padded_of_lt _ _ (by have := n.isLt; show 512 * (grid0.coords t 1).val + n.val - 6 < 2; omega)).symm
  · have hs : t.val - 1 < cfg0.N := Nat.lt_of_le_of_lt (Nat.sub_le _ _) t.isLt
    obtain ⟨es0, es1⟩ := coords_eq ⟨t.val - 1, hs⟩
    have hi' : (grid0.coords ⟨t.val - 1, hs⟩ 1).val < 32 := (grid0.coords ⟨t.val - 1, hs⟩ 1).isLt
    have es0' : (grid0.coords ⟨t.val - 1, hs⟩ 0).val = (grid0.coords t 0).val := by
      rw [es0, ec0]; show (t.val - 1) / 32 = t.val / 32; omega
    have es1' : (grid0.coords ⟨t.val - 1, hs⟩ 1).val + 1 = (grid0.coords t 1).val := by
      rw [es1, ec1]; show (t.val - 1) % 32 + 1 = t.val % 32; omega
    rw [outsAt0_B m c t h0]
    dsimp only
    unfold out0_B_10
    rw [run_pieces_B, View.read_writes_junk_eq_canon]
    simp only [loadsOf_eq]
    refine (pointOut_apply (iblk m c 0 t) (iblk m c 1 t) (iblk m c 2 t) (iblk m c 3 t) (iblk m c 4 t) (iblk m c 5 t) (iblk m c 6 t) (iblk m c 7 t) (iblk m c 8 t) _ _ _ _ _ _ _
      (fun q h x => carryB_apply _ q h x) r d).trans ?_
    refine point_layer m c t hi _ (fun n c' hn => ?_) r d
    have hn' := n.isLt
    have hT : 512 * (grid0.coords t 1).val + n.val - 8 < 16384 := by omega
    refine (congrFun (carry_after m c ⟨t.val - 1, hs⟩) _).trans ?_
    refine (lastRows_eq (sumBlk m c ⟨t.val - 1, hs⟩) (iblk m c 4 ⟨t.val - 1, hs⟩) (iblk m c 5 ⟨t.val - 1, hs⟩) (seqOf m c ⟨t.val - 1, hs⟩) (grid0.coords ⟨t.val - 1, hs⟩ 1).val hi'
      (sumBlk_eq m c ⟨t.val - 1, hs⟩ hi') n c' ⟨512 * (grid0.coords t 1).val + n.val - 8, hT⟩ ?_).trans ?_
    · show 512 * (grid0.coords t 1).val + n.val - 8 = _; omega
    · refine (upSeq_prev m c t ⟨t.val - 1, hs⟩ es0' _ c').trans ?_
      exact (padded_of_le (fun T => upSeq (iblk m c 4 t) (iblk m c 5 t) (seqOf m c t) T c') _ ⟨512 * (grid0.coords t 1).val + n.val - 8, hT⟩
        (by show 512 * (grid0.coords t 1).val + n.val - 8 + 2 = 512 * (grid0.coords t 1).val + n.val - 6; omega)).symm

/-- The kernel's output array at the end. -/
theorem array_eq : (dats m 0 c).arrAt 10 cfg0.N = result m c := by
  have e : ∀ t : Fin cfg0.N, win0_10.index t = ![(grid0.coords t 0).val, (grid0.coords t 1).val, 0] := by decide +kernel
  refine (dats m 0 c).arrAt_eq_of_covers 10 _ (by decide +kernel) fun t hf y => ?_
  blk_simp
  rw [after0_10]
  refine (block_eq m c t y).trans ?_
  blk_ext [e t]

end Cert.Ffn0

end
-- ==== Proof.Ffn0.Ref.lean ====
/- What the reference of layer 0's feed-forward computes, read at an index one stage at a time: the layer of `Ffn0/Spec.lean`. -/
module

public import proofs.«01_k».proof.Proof.Ffn0.Spec
public import proofs.«01_k».proof.Proof.Gen.Reference3Ideal.Read

@[expose] public section

noncomputable section

namespace Cert.Ffn0.Ref

open Cert.Reference3Ideal Cert.Reference3Ideal.Read Idealize.ShloMosaic Idealize.ShloMosaic.TcCoe Idealize.SL.Sem Cert.Ffn
open Cert.Sgu (rms gelu)

variable (x0 : (⟨S2x16384x1024, .f32⟩ : BufTy).Contents (Elt Ideal)) (x1 : (⟨S2x16384x1024, .bf16⟩ : BufTy).Contents (Elt Ideal)) (x2 : (⟨S2x16384x512, .bf16⟩ : BufTy).Contents (Elt Ideal)) (x3 : (⟨S1x1536x1024, .f32⟩ : BufTy).Contents (Elt Ideal)) (x4 : (⟨S2x1024, .f32⟩ : BufTy).Contents (Elt Ideal)) (x5 : (⟨S2x1024x5632, .f32⟩ : BufTy).Contents (Elt Ideal)) (x6 : (⟨S2x3x5632, .f32⟩ : BufTy).Contents (Elt Ideal)) (x7 : (⟨S2x5632, .f32⟩ : BufTy).Contents (Elt Ideal)) (x8 : (⟨S2x2816x1024, .f32⟩ : BufTy).Contents (Elt Ideal))

/-- The reference's stream after the mixers. -/
theorem stream_apply (n : Fin 2) (T : Fin 16384) (d : Fin 1024) : val_main_v5 (F := Ideal) x0 x1 x2 x3 (ix3 n T d)
    = stream (fun T k => x0 (ix3 n T k)) (fun T k => x1 (ix3 n T k)) (fun T k => x2 (ix3 n T k)) (fun k d => x3 (ix3 0 k d)) T d := by
  have h : ∀ k : Fin 1536, val_main_v2 (F := Ideal) x1 x2 (ix3 n T k)
      = if p : k.val < 1024 then x1 (ix3 n T ⟨k.val, p⟩) else x2 (ix3 n T ⟨k.val - 1024, by have := k.isLt; omega⟩) := fun k => by
    unfold val_main_v2 val_main_v1 val_main_v0
    pointwise
  unfold stream mix
  unfold val_main_v5 val_main_v4 val_main_v3
  generalize val_main_v2 (F := Ideal) x1 x2 = y at h ⊢
  pointwise
  simp only [h]
  refine congrArg (x0 (ix3 n T d) + ·) ?_
  refine (Fin.sum_univ_add (a := 1024) (b := 512) _).trans (congrArg₂ (· + ·) (Finset.sum_congr rfl fun k _ => ?_) (Finset.sum_congr rfl fun k _ => ?_))
  · have p : (Fin.castAdd 512 k).val < 1024 := k.isLt
    rw [dif_pos p]
    rfl
  · have p : ¬ (Fin.natAdd 1024 k).val < 1024 := by show ¬ 1024 + k.val < 1024; omega
    rw [dif_neg p]
    exact congrArg₂ (· * ·) (congrArg (fun k => x2 (ix3 n T k)) (Fin.ext (by show 1024 + k.val - 1024 = k.val; omega))) rfl

/-- The normalised row of token `T` of sequence `n`. -/
def rowN (n : Fin 2) (T : Fin 16384) : Fin 1024 → EReal := rms (fun k => val_main_v5 (F := Ideal) x0 x1 x2 x3 (ix3 n T k)) (fun k => x4 (ix2 0 k))

/-- The reference's normalised rows. -/
theorem norm_apply (i : S2x16384x1024.Idx) : val_main_v20 (F := Ideal) x0 x1 x2 x3 x4 i = rowN x0 x1 x2 x3 x4 (i 0) (i 1) (i 2) := by
  unfold val_main_v20 val_main_v19 val_main_v18 val_main_v17 val_main_v16 val_main_v15 val_main_v14 val_main_v13 val_main_v12 val_main_v11 val_main_v10 val_main_v9 val_main_v8 val_main_v7 val_main_v6 val_main_cst val_main_cst_0 val_main_cst_1 rowN rms
  generalize val_main_v5 (F := Ideal) x0 x1 x2 x3 = s
  pointwise

/-- The up projection of token `T` of sequence `n`. -/
def rowZ (n : Fin 2) (c : Fin 5632) (T : Fin 16384) : EReal := up (rowN x0 x1 x2 x3 x4 n T) (fun k c => x5 (ix3 0 k c)) c

/-- The reference's up projection with two zero rows in front. -/
theorem padded_apply (i : S2x16386x5632.Idx) : val_main_v30 (F := Ideal) x0 x1 x2 x3 x4 x5 i = padded (rowZ x0 x1 x2 x3 x4 x5 (i 0) (i 2)) (i 1) := by
  have h : ∀ n T k, val_main_v20 (F := Ideal) x0 x1 x2 x3 x4 (ix3 n T k) = rowN x0 x1 x2 x3 x4 n T k := fun n T k => norm_apply x0 x1 x2 x3 x4 _
  unfold rowZ up padded
  unfold val_main_v30 val_main_v29 val_main_v22 val_main_v21 val_main_call0_v0 val_main_c
  generalize val_main_v20 (F := Ideal) x0 x1 x2 x3 x4 = hn at h ⊢
  pointwise
  have hi : (i 1).val < 16386 := (i 1).isLt
  have h0 : (FloatOps.sitofp (F := Ideal) FTy.f32 (0#32) : EReal) = 0 := by
    show (((BitVec.toInt (0#32) : ℝ)) : EReal) = 0
    simp
  by_cases p : 2 ≤ (i 1).val
  · rw [dif_pos p, dif_pos ⟨p, by omega⟩]
    exact Finset.sum_congr rfl fun k _ => congrArg₂ (· * ·) (h _ _ _) rfl
  · rw [dif_neg p, dif_neg fun q => p q.1]
    exact h0

/-- The convolution of column `c` at token `T` of sequence `n`. -/
def rowC (n : Fin 2) (c : Fin 5632) (T : Fin 16384) : EReal := convAt (rowZ x0 x1 x2 x3 x4 x5 n c) (fun k => x6 (ix3 0 k c)) (x7 (ix2 0 c)) T

/-- The reference's convolution. -/
theorem conv_apply (i : S2x16384x5632.Idx) : val_main_v55 (F := Ideal) x0 x1 x2 x3 x4 x5 x6 x7 i = rowC x0 x1 x2 x3 x4 x5 x6 x7 (i 0) (i 2) (i 1) := by
  have h : ∀ T, val_main_v30 (F := Ideal) x0 x1 x2 x3 x4 x5 (ix3 (i 0) T (i 2)) = padded (rowZ x0 x1 x2 x3 x4 x5 (i 0) (i 2)) T := fun T => padded_apply x0 x1 x2 x3 x4 x5 _
  unfold rowC convAt conv
  unfold val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v26 val_main_v25 val_main_v24 val_main_v23 val_main_cst_2
  generalize val_main_v30 (F := Ideal) x0 x1 x2 x3 x4 x5 = z at h ⊢
  pointwise
  have e : ∀ T T' : Fin 16386, T.val = T'.val → z (ix3 (i 0) T (i 2)) = padded (rowZ x0 x1 x2 x3 x4 x5 (i 0) (i 2)) T' := by
    rintro T T' q
    exact (h T).trans (by rw [Fin.ext q])
  refine (add_comm _ _).trans ?_
  simp only [add_assoc]
  exact congrArg₂ (· + ·) rfl (congrArg₂ (· + ·) (congrArg₂ (· * ·) (e _ _ rfl) rfl)
    (congrArg₂ (· + ·) (congrArg₂ (· * ·) (e _ _ (Nat.add_comm _ _)) rfl) (congrArg₂ (· * ·) (e _ _ (Nat.add_comm _ _)) rfl)))

/-- The reference's hidden rows. -/
theorem hidden_apply (i : S2x16384x2816.Idx) : val_main_v71 (F := Ideal) x0 x1 x2 x3 x4 x5 x6 x7 i
    = gelu (rowC x0 x1 x2 x3 x4 x5 x6 x7 (i 0) (uCol (i 2)) (i 1)) * rowC x0 x1 x2 x3 x4 x5 x6 x7 (i 0) (vCol (i 2)) (i 1) := by
  have h : ∀ c, val_main_v55 (F := Ideal) x0 x1 x2 x3 x4 x5 x6 x7 (ix3 (i 0) (i 1) c) = rowC x0 x1 x2 x3 x4 x5 x6 x7 (i 0) c (i 1) := fun c => conv_apply x0 x1 x2 x3 x4 x5 x6 x7 _
  unfold gelu Cert.Ffn.uCol Cert.Ffn.vCol
  unfold val_main_v71 val_main_v70 val_main_v69 val_main_v68 val_main_v67 val_main_v66 val_main_v65 val_main_v64 val_main_v63 val_main_v62 val_main_v61 val_main_v60 val_main_v59 val_main_v58 val_main_v57 val_main_v56 val_main_cst_3 val_main_cst_4 val_main_cst_5 val_main_cst_6
  generalize val_main_v55 (F := Ideal) x0 x1 x2 x3 x4 x5 x6 x7 = z at h ⊢
  pointwise
  simp only [h]

/-- The reference's sum of the stream and the down projection, at a token. -/
theorem sum_apply (n : Fin 2) (T : Fin 16384) (d : Fin 1024) : val_main_v73 (F := Ideal) x0 x1 x2 x3 x4 x5 x6 x7 x8 (ix3 n T d)
    = val_main_v5 (F := Ideal) x0 x1 x2 x3 (ix3 n T d) + ∑ c, hidden (fun T k => val_main_v5 (F := Ideal) x0 x1 x2 x3 (ix3 n T k)) (fun k => x4 (ix2 0 k)) (fun k c => x5 (ix3 0 k c)) (fun k c => x6 (ix3 0 k c)) (fun c => x7 (ix2 0 c)) T c * x8 (ix3 0 c d) := by
  have h : ∀ c, val_main_v71 (F := Ideal) x0 x1 x2 x3 x4 x5 x6 x7 (ix3 n T c) = hidden (fun T k => val_main_v5 (F := Ideal) x0 x1 x2 x3 (ix3 n T k)) (fun k => x4 (ix2 0 k)) (fun k c => x5 (ix3 0 k c)) (fun k c => x6 (ix3 0 k c)) (fun c => x7 (ix2 0 c)) T c := fun c => hidden_apply x0 x1 x2 x3 x4 x5 x6 x7 _
  unfold val_main_v73 val_main_v72 val_main_v28 val_main_v27
  generalize val_main_v71 (F := Ideal) x0 x1 x2 x3 x4 x5 x6 x7 = y at h ⊢
  generalize val_main_v5 (F := Ideal) x0 x1 x2 x3 = s at h ⊢
  pointwise
  simp only [h]

/-- The reference's result at an index. -/
theorem result_apply (n : Fin 2) (T : Fin 16384) (d : Fin 1024) : val_main_v73 (F := Ideal) x0 x1 x2 x3 x4 x5 x6 x7 x8 (ix3 n T d)
    = layer (stream (fun T k => x0 (ix3 n T k)) (fun T k => x1 (ix3 n T k)) (fun T k => x2 (ix3 n T k)) (fun k d => x3 (ix3 0 k d)))
        (fun k => x4 (ix2 0 k)) (fun k c => x5 (ix3 0 k c)) (fun k c => x6 (ix3 0 k c)) (fun c => x7 (ix2 0 c)) (fun c d => x8 (ix3 0 c d)) T d := by
  have e : (fun T k => val_main_v5 (F := Ideal) x0 x1 x2 x3 (ix3 n T k)) = stream (fun T k => x0 (ix3 n T k)) (fun T k => x1 (ix3 n T k)) (fun T k => x2 (ix3 n T k)) (fun k d => x3 (ix3 0 k d)) :=
    funext fun T => funext fun k => stream_apply x0 x1 x2 x3 n T k
  refine (sum_apply x0 x1 x2 x3 x4 x5 x6 x7 x8 n T d).trans ?_
  rw [← e]
  rfl

end Cert.Ffn0.Ref

end
-- ==== Proof.lean ====
/- The claims of the feed-forward call and of the gated mixer: the frames are the generated ones, no operation is rewritten
   by the ideal pass, and each kernel's array and its reference's result are both the layer of `Ffn/Spec.lean` or `Sgu/Spec.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Read
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Sgu.Array
public import proofs.«01_k».proof.Proof.Sgu.Ref
public import proofs.«01_k».proof.Proof.Ffn.Array
public import proofs.«01_k».proof.Proof.Ffn.Ref
public import proofs.«01_k».proof.Proof.Ffn0.Array
public import proofs.«01_k».proof.Proof.Ffn0.Ref
public import Idealize.ShloMosaic.Adequacy
public import Idealize.ShloMosaic.Init

@[expose] public section

noncomputable section

namespace Cert.Proof

open Idealize.ShloMosaic Idealize.SL.Sem Cert.Kernel

/-- The gated mixer: the kernel's array and the reference's result are one function of the arguments. -/
theorem algebraic : algebraic_KernelIdeal_ReferenceIdeal (hKernelIdeal := Cert.KernelIdeal.Gen.facts) (hReferenceIdeal := Cert.ReferenceIdeal.Gen.facts) := by
  intro m g m' g' _ hargs
  refine ⟨fun c => Cert.Sgu.result m c, ?_, ?_⟩
  · refine (θ_run Cert.KernelIdeal.defs _ _).mono (fun r h c => ?_) (Cert.KernelIdeal.Value.run_blocks m g)
    exact ⟨(h c).1.trans (Cert.Sgu.array_eq m c), (h c).2⟩
  · refine (θ_run Cert.ReferenceIdeal.defs _ _).mono (fun r h c => ?_) (Cert.ReferenceIdeal.Value.run m' g')
    refine ⟨(h c).1.trans ((Cert.ReferenceIdeal.Read.val_main_v82_eq m' c).trans (funext fun i => (Cert.Sgu.Ref.result_apply _ _ _ _ _ _ _ _ i).trans ?_)), (h c).2⟩
    obtain ⟨h0, h1, h2, h3, h4, h5, h6, h7⟩ := hargs c
    rw [h0, h1, h2, h3, h4, h5, h6, h7]
    rfl

/-- The feed-forward call: the kernel's array and the reference's result are one function of the arguments. -/
theorem algebraic2 : algebraic_Kernel2Ideal_Reference2Ideal (hKernel2Ideal := Cert.Kernel2Ideal.Gen.facts) (hReference2Ideal := Cert.Reference2Ideal.Gen.facts) := by
  intro m g m' g' _ hargs
  refine ⟨fun c => Cert.Ffn.result m c, ?_, ?_⟩
  · refine (θ_run Cert.Kernel2Ideal.defs _ _).mono (fun r h c => ?_) (Cert.Kernel2Ideal.Value.run_blocks m g)
    exact ⟨(h c).1.trans (Cert.Ffn.array_eq m c), (h c).2⟩
  · refine (θ_run Cert.Reference2Ideal.defs _ _).mono (fun r h c => ?_) (Cert.Reference2Ideal.Value.run m' g')
    refine ⟨(h c).1.trans ((Cert.Reference2Ideal.Read.val_main_v80_eq _).trans (funext fun i => ?_)), (h c).2⟩
    obtain ⟨n, T, d, rfl⟩ : ∃ (n : Fin 2) (T : Fin 16384) (d : Fin 1024), i = ix3 n T d := by
      refine ⟨i 0, i 1, i 2, funext fun a => ?_⟩
      fin_cases a <;> rfl
    refine (Cert.Ffn.Ref.result_apply (m' ((c.tc : Thread _ _).loc Cert.Reference2Ideal.main_arg0)) (m' ((c.tc : Thread _ _).loc Cert.Reference2Ideal.main_arg1)) (m' ((c.tc : Thread _ _).loc Cert.Reference2Ideal.main_arg2)) (m' ((c.tc : Thread _ _).loc Cert.Reference2Ideal.main_arg3)) (m' ((c.tc : Thread _ _).loc Cert.Reference2Ideal.main_arg4)) (m' ((c.tc : Thread _ _).loc Cert.Reference2Ideal.main_arg5)) (m' ((c.tc : Thread _ _).loc Cert.Reference2Ideal.main_arg6)) n T d).trans ?_
    obtain ⟨h0, h1, h2, h3, h4, h5, h6⟩ := hargs c
    rw [h0, h1, h2, h3, h4, h5, h6]
    rfl

/-- Layer 0's feed-forward call: the kernel's array and the reference's result are one function of the arguments. -/
theorem algebraic3 : algebraic_Kernel3Ideal_Reference3Ideal (hKernel3Ideal := Cert.Kernel3Ideal.Gen.facts) (hReference3Ideal := Cert.Reference3Ideal.Gen.facts) := by
  intro m g m' g' _ hargs
  refine ⟨fun c => Cert.Ffn0.result m c, ?_, ?_⟩
  · refine (θ_run Cert.Kernel3Ideal.defs _ _).mono (fun r h c => ?_) (Cert.Kernel3Ideal.Value.run_blocks m g)
    exact ⟨(h c).1.trans (Cert.Ffn0.array_eq m c), (h c).2⟩
  · refine (θ_run Cert.Reference3Ideal.defs _ _).mono (fun r h c => ?_) (Cert.Reference3Ideal.Value.run m' g')
    refine ⟨(h c).1.trans ((Cert.Reference3Ideal.Read.val_main_v73_eq m' c).trans (funext fun i => ?_)), (h c).2⟩
    obtain ⟨n, T, d, rfl⟩ : ∃ (n : Fin 2) (T : Fin 16384) (d : Fin 1024), i = ix3 n T d := by
      refine ⟨i 0, i 1, i 2, funext fun a => ?_⟩
      fin_cases a <;> rfl
    refine (Cert.Ffn0.Ref.result_apply (m' ((c.tc : Thread _ _).loc Cert.Reference3Ideal.main_arg0)) (m' ((c.tc : Thread _ _).loc Cert.Reference3Ideal.main_arg1)) (m' ((c.tc : Thread _ _).loc Cert.Reference3Ideal.main_arg2)) (m' ((c.tc : Thread _ _).loc Cert.Reference3Ideal.main_arg3)) (m' ((c.tc : Thread _ _).loc Cert.Reference3Ideal.main_arg4)) (m' ((c.tc : Thread _ _).loc Cert.Reference3Ideal.main_arg5)) (m' ((c.tc : Thread _ _).loc Cert.Reference3Ideal.main_arg6)) (m' ((c.tc : Thread _ _).loc Cert.Reference3Ideal.main_arg7)) (m' ((c.tc : Thread _ _).loc Cert.Reference3Ideal.main_arg8)) n T d).trans ?_
    obtain ⟨h0, h1, h2, h3, h4, h5, h6, h7, h8⟩ := hargs c
    rw [h0, h1, h2, h3, h4, h5, h6, h7, h8]
    rfl

/-- The gated mixer's reference runs, keeps its arguments, and has no semaphore. -/
theorem frame_reference : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The feed-forward reference runs, keeps its arguments, and has no semaphore. -/
theorem frame_reference2 : quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

/-- The reference of layer 0's feed-forward runs, keeps its arguments, and has no semaphore. -/
theorem frame_reference3 : quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  fun m g _ => Cert.Kernel.Gen.frame m g, fun m g _ => Cert.KernelIdeal.Gen.frame m g, frame_reference,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  trivial, algebraic, trivial, algebraic2, trivial, algebraic3⟩

end Cert.Proof

end
